-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16384x256 : Shape := ⟨2, ![16384, 256]⟩
abbrev S16384x512 : Shape := ⟨2, ![16384, 512]⟩
abbrev S16384x16 : Shape := ⟨2, ![16384, 16]⟩
abbrev S4x16x256 : Shape := ⟨3, ![4, 16, 256]⟩
abbrev S4x256 : Shape := ⟨2, ![4, 256]⟩
abbrev S4x4x128 : Shape := ⟨3, ![4, 4, 128]⟩
abbrev S_ : Shape := ⟨0, ![]⟩
abbrev S16384x1024 : Shape := ⟨2, ![16384, 1024]⟩
abbrev S16384x4x64 : Shape := ⟨3, ![16384, 4, 64]⟩
abbrev S16384x4x128 : Shape := ⟨3, ![16384, 4, 128]⟩
abbrev S16384x4096 : Shape := ⟨2, ![16384, 4096]⟩
abbrev S16384x128 : Shape := ⟨2, ![16384, 128]⟩
abbrev S4x16x4x64 : Shape := ⟨4, ![4, 16, 4, 64]⟩
abbrev S4x128x4x128 : Shape := ⟨4, ![4, 128, 4, 128]⟩
abbrev S4x1x4x64 : Shape := ⟨4, ![4, 1, 4, 64]⟩
abbrev S4x1x4x128 : Shape := ⟨4, ![4, 1, 4, 128]⟩
abbrev S4x128x512 : Shape := ⟨3, ![4, 128, 512]⟩
abbrev S4x1x512 : Shape := ⟨3, ![4, 1, 512]⟩
abbrev S2x4x128x128 : Shape := ⟨4, ![2, 4, 128, 128]⟩
abbrev S512x512 : Shape := ⟨2, ![512, 512]⟩
abbrev S512x128 : Shape := ⟨2, ![512, 128]⟩
abbrev S1x128x512 : Shape := ⟨3, ![1, 128, 512]⟩
abbrev S1x1x512 : Shape := ⟨3, ![1, 1, 512]⟩
abbrev S1x4x128x128 : Shape := ⟨4, ![1, 4, 128, 128]⟩
abbrev S4x128x128 : Shape := ⟨3, ![4, 128, 128]⟩
abbrev S64x64 : Shape := ⟨2, ![64, 64]⟩
abbrev S128x512 : Shape := ⟨2, ![128, 512]⟩
abbrev S1x512 : Shape := ⟨2, ![1, 512]⟩
abbrev S64x512 : Shape := ⟨2, ![64, 512]⟩
abbrev S64x128 : Shape := ⟨2, ![64, 128]⟩
abbrev S1x128 : Shape := ⟨2, ![1, 128]⟩
abbrev S128x128 : Shape := ⟨2, ![128, 128]⟩
abbrev S1x128x128 : Shape := ⟨3, ![1, 128, 128]⟩
abbrev S1x1x128 : Shape := ⟨3, ![1, 1, 128]⟩
abbrev S64 : Shape := ⟨1, ![64]⟩
abbrev S64x1 : Shape := ⟨2, ![64, 1]⟩

abbrev nBuf : Space → Nat
  | .hbm => 43
  | .vmem => 20
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x512, .f32⟩
  | .hbm, ⟨3, _⟩ => ⟨S16384x512, .f32⟩
  | .hbm, ⟨4, _⟩ => ⟨S16384x16, .f32⟩
  | .hbm, ⟨5, _⟩ => ⟨S4x16x256, .f32⟩
  | .hbm, ⟨6, _⟩ => ⟨S4x256, .f32⟩
  | .hbm, ⟨7, _⟩ => ⟨S4x4x128, .f32⟩
  | .hbm, ⟨8, _⟩ => ⟨S_, .f32⟩
  | .hbm, ⟨9, _⟩ => ⟨S16384x1024, .f32⟩
  | .hbm, ⟨10, _⟩ => ⟨S16384x4x64, .f32⟩
  | .hbm, ⟨11, _⟩ => ⟨S_, .i32⟩
  | .hbm, ⟨12, _⟩ => ⟨S_, .f32⟩
  | .hbm, ⟨13, _⟩ => ⟨S16384x4x128, .f32⟩
  | .hbm, ⟨14, _⟩ => ⟨S16384x512, .f32⟩
  | .hbm, ⟨15, _⟩ => ⟨S16384x4x64, .f32⟩
  | .hbm, ⟨16, _⟩ => ⟨S_, .i32⟩
  | .hbm, ⟨17, _⟩ => ⟨S_, .f32⟩
  | .hbm, ⟨18, _⟩ => ⟨S16384x4x128, .f32⟩
  | .hbm, ⟨19, _⟩ => ⟨S16384x512, .f32⟩
  | .hbm, ⟨20, _⟩ => ⟨S_, .f32⟩
  | .hbm, ⟨21, _⟩ => ⟨S16384x1024, .f32⟩
  | .hbm, ⟨22, _⟩ => ⟨S16384x4096, .f32⟩
  | .hbm, ⟨23, _⟩ => ⟨S16384x4096, .bf16⟩
  | .hbm, ⟨24, _⟩ => ⟨S_, .i32⟩
  | .hbm, ⟨25, _⟩ => ⟨S_, .f32⟩
  | .hbm, ⟨26, _⟩ => ⟨S16384x128, .f32⟩
  | .hbm, ⟨27, _⟩ => ⟨S4x16x4x64, .f32⟩
  | .hbm, ⟨28, _⟩ => ⟨S_, .i32⟩
  | .hbm, ⟨29, _⟩ => ⟨S_, .f32⟩
  | .hbm, ⟨30, _⟩ => ⟨S4x128x4x128, .f32⟩
  | .hbm, ⟨31, _⟩ => ⟨S4x1x4x64, .f32⟩
  | .hbm, ⟨32, _⟩ => ⟨S_, .i32⟩
  | .hbm, ⟨33, _⟩ => ⟨S_, .f32⟩
  | .hbm, ⟨34, _⟩ => ⟨S4x1x4x128, .f32⟩
  | .hbm, ⟨35, _⟩ => ⟨S4x128x512, .f32⟩
  | .hbm, ⟨36, _⟩ => ⟨S4x128x512, .bf16⟩
  | .hbm, ⟨37, _⟩ => ⟨S4x1x512, .f32⟩
  | .hbm, ⟨38, _⟩ => ⟨S_, .f32⟩
  | .hbm, ⟨39, _⟩ => ⟨S2x4x128x128, .f32⟩
  | .hbm, ⟨40, _⟩ => ⟨S4x1x512, .f32⟩
  | .hbm, ⟨41, _⟩ => ⟨S16384x512, .bf16⟩
  | .hbm, ⟨42, _⟩ => ⟨S2x4x128x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S1x128x512, .bf16⟩
  | .local _ .vmem, ⟨11, _⟩ => ⟨S1x1x512, .f32⟩
  | .local _ .vmem, ⟨12, _⟩ => ⟨S1x1x512, .f32⟩
  | .local _ .vmem, ⟨13, _⟩ => ⟨S1x4x128x128, .f32⟩
  | .local _ .vmem, ⟨14, _⟩ => ⟨S1x4x128x128, .f32⟩
  | .local _ .vmem, ⟨15, _⟩ => ⟨S512x512, .bf16⟩
  | .local _ .vmem, ⟨16, _⟩ => ⟨S512x512, .bf16⟩
  | .local _ .vmem, ⟨17, _⟩ => ⟨S1x4x128x128, .f32⟩
  | .local _ .vmem, ⟨18, _⟩ => ⟨S1x4x128x128, .f32⟩
  | .local _ .vmem, ⟨19, _⟩ => ⟨S4x128x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call2_v0 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_call3_v0 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_call4_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v2248 : BitVec 1 := Scalar.cmpi .eq arg1 c15_i32
  let v2249 : BitVec 32 := Scalar.extui v2248
  let c0_i32_876 : BitVec 32 := 0#32
  let v2250 : BitVec 1 := Scalar.cmpi .ne v2249 c0_i32_876
  v2250

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16384x256 : Shape := ⟨2, ![16384, 256]⟩
abbrev S16384x512 : Shape := ⟨2, ![16384, 512]⟩
abbrev S16384x16 : Shape := ⟨2, ![16384, 16]⟩
abbrev S4x16x256 : Shape := ⟨3, ![4, 16, 256]⟩
abbrev S4x256 : Shape := ⟨2, ![4, 256]⟩
abbrev S4x4x128 : Shape := ⟨3, ![4, 4, 128]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S_ : Shape := ⟨0, ![]⟩
abbrev S64x64 : Shape := ⟨2, ![64, 64]⟩
abbrev S2x4x64x128 : Shape := ⟨4, ![2, 4, 64, 128]⟩
abbrev S2x8192x4x64 : Shape := ⟨4, ![2, 8192, 4, 64]⟩
abbrev S2x128x64x4x64 : Shape := ⟨5, ![2, 128, 64, 4, 64]⟩
abbrev S128x2x64x4x64 : Shape := ⟨5, ![128, 2, 64, 4, 64]⟩
abbrev S2x8192x4x128 : Shape := ⟨4, ![2, 8192, 4, 128]⟩
abbrev S2x128x64x4x128 : Shape := ⟨5, ![2, 128, 64, 4, 128]⟩
abbrev S128x2x64x4x128 : Shape := ⟨5, ![128, 2, 64, 4, 128]⟩
abbrev S1x2x64x4x64 : Shape := ⟨5, ![1, 2, 64, 4, 64]⟩
abbrev S2x64x4x64 : Shape := ⟨4, ![2, 64, 4, 64]⟩
abbrev S1x2x64x4x128 : Shape := ⟨5, ![1, 2, 64, 4, 128]⟩
abbrev S2x64x4x128 : Shape := ⟨4, ![2, 64, 4, 128]⟩
abbrev S2x4x64x64 : Shape := ⟨4, ![2, 4, 64, 64]⟩
abbrev S2x4x128x64 : Shape := ⟨4, ![2, 4, 128, 64]⟩
abbrev S2x1x4x64 : Shape := ⟨4, ![2, 1, 4, 64]⟩
abbrev S2x4x64 : Shape := ⟨3, ![2, 4, 64]⟩
abbrev S2x4x64x1 : Shape := ⟨4, ![2, 4, 64, 1]⟩
abbrev S2x8192x4 : Shape := ⟨3, ![2, 8192, 4]⟩
abbrev S2x8192x4x1 : Shape := ⟨4, ![2, 8192, 4, 1]⟩
abbrev S1x4x128 : Shape := ⟨3, ![1, 4, 128]⟩
abbrev S4x128 : Shape := ⟨2, ![4, 128]⟩
abbrev S1x1x4x128 : Shape := ⟨4, ![1, 1, 4, 128]⟩
abbrev S2x4x128x128 : Shape := ⟨4, ![2, 4, 128, 128]⟩

abbrev nBuf : Space → Nat
  | .hbm => 177
  | .vmem => 0
  | .smem => 0
  | _ => 0

abbrev hbmTy0_0 (i : Nat) : BufTy := match i % 128 with
  | 0 => ⟨S16384x256, .f32⟩
  | 1 => ⟨S16384x256, .f32⟩
  | 2 => ⟨S16384x512, .f32⟩
  | 3 => ⟨S16384x512, .f32⟩
  | 4 => ⟨S16384x16, .f32⟩
  | 5 => ⟨S4x16x256, .f32⟩
  | 6 => ⟨S4x256, .f32⟩
  | 7 => ⟨S4x4x128, .f32⟩
  | 8 => ⟨S1x16x256, .f32⟩
  | 9 => ⟨S16x256, .f32⟩
  | 10 => ⟨S16384x256, .f32⟩
  | 11 => ⟨S1x256, .f32⟩
  | 12 => ⟨S256, .f32⟩
  | 13 => ⟨S1x256, .f32⟩
  | 14 => ⟨S16384x256, .f32⟩
  | 15 => ⟨S16384x256, .f32⟩
  | 16 => ⟨S16384x256, .f32⟩
  | 17 => ⟨S_, .f32⟩
  | 18 => ⟨S16384x256, .f32⟩
  | 19 => ⟨S16384x256, .f32⟩
  | 20 => ⟨S16384x256, .f32⟩
  | 21 => ⟨S16384x256, .f32⟩
  | 22 => ⟨S16384x256, .i1⟩
  | 23 => ⟨S16384x256, .f32⟩
  | 24 => ⟨S16384x256, .f32⟩
  | 25 => ⟨S16384x256, .f32⟩
  | 26 => ⟨S16384x256, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S_, .f32⟩
  | 33 => ⟨S16384x256, .f32⟩
  | 34 => ⟨S16384x256, .f32⟩
  | 35 => ⟨S_, .i1⟩
  | 36 => ⟨S64x64, .i1⟩
  | 37 => ⟨S64x64, .i32⟩
  | 38 => ⟨S_, .i32⟩
  | 39 => ⟨S64x64, .i32⟩
  | 40 => ⟨S64x64, .i32⟩
  | 41 => ⟨S64x64, .i32⟩
  | 42 => ⟨S64x64, .i1⟩
  | 43 => ⟨S_, .i1⟩
  | 44 => ⟨S64x64, .i1⟩
  | 45 => ⟨S64x64, .i1⟩
  | 46 => ⟨S_, .f32⟩
  | 47 => ⟨S2x4x64x128, .f32⟩
  | 48 => ⟨S2x8192x4x64, .f32⟩
  | 49 => ⟨S_, .f32⟩
  | 50 => ⟨S2x8192x4x64, .f32⟩
  | 51 => ⟨S2x8192x4x64, .f32⟩
  | 52 => ⟨S2x128x64x4x64, .f32⟩
  | 53 => ⟨S128x2x64x4x64, .f32⟩
  | 54 => ⟨S2x8192x4x64, .f32⟩
  | 55 => ⟨S2x128x64x4x64, .f32⟩
  | 56 => ⟨S128x2x64x4x64, .f32⟩
  | 57 => ⟨S2x8192x4x128, .f32⟩
  | 58 => ⟨S2x128x64x4x128, .f32⟩
  | 59 => ⟨S128x2x64x4x128, .f32⟩
  | 60 => ⟨S2x8192x4x64, .f32⟩
  | 61 => ⟨S2x128x64x4x64, .f32⟩
  | 62 => ⟨S128x2x64x4x64, .f32⟩
  | 63 => ⟨S_, .f32⟩
  | 64 => ⟨S128x2x64x4x128, .f32⟩
  | 65 => ⟨S_, .i32⟩
  | 66 => ⟨S128x2x64x4x64, .f32⟩
  | 67 => ⟨S128x2x64x4x64, .f32⟩
  | 68 => ⟨S128x2x64x4x128, .f32⟩
  | 69 => ⟨S128x2x64x4x64, .f32⟩
  | 70 => ⟨S64x64, .i1⟩
  | 71 => ⟨S_, .i32⟩
  | 72 => ⟨S2x4x64x128, .f32⟩
  | 73 => ⟨S128x2x64x4x128, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1x2x64x4x64, .f32⟩
  | 81 => ⟨S2x64x4x64, .f32⟩
  | 82 => ⟨S_, .i32⟩
  | 83 => ⟨S_, .i32⟩
  | 84 => ⟨S_, .i32⟩
  | 85 => ⟨S_, .i32⟩
  | 86 => ⟨S1x2x64x4x64, .f32⟩
  | 87 => ⟨S2x64x4x64, .f32⟩
  | 88 => ⟨S_, .i32⟩
  | 89 => ⟨S_, .i32⟩
  | 90 => ⟨S_, .i32⟩
  | 91 => ⟨S_, .i32⟩
  | 92 => ⟨S1x2x64x4x128, .f32⟩
  | 93 => ⟨S2x64x4x128, .f32⟩
  | 94 => ⟨S_, .i32⟩
  | 95 => ⟨S_, .i32⟩
  | 96 => ⟨S_, .i32⟩
  | 97 => ⟨S_, .i32⟩
  | 98 => ⟨S1x2x64x4x64, .f32⟩
  | 99 => ⟨S2x64x4x64, .f32⟩
  | 100 => ⟨S_, .f32⟩
  | 101 => ⟨S_, .f32⟩
  | 102 => ⟨S2x64x4x64, .f32⟩
  | 103 => ⟨S2x64x4x64, .f32⟩
  | 104 => ⟨S2x64x4x64, .f32⟩
  | 105 => ⟨S2x64x4x64, .f32⟩
  | 106 => ⟨S2x64x4x64, .f32⟩
  | 107 => ⟨S2x64x4x64, .f32⟩
  | 108 => ⟨S2x4x64x64, .f32⟩
  | 109 => ⟨S_, .f32⟩
  | 110 => ⟨S_, .f32⟩
  | 111 => ⟨S2x4x64x64, .i1⟩
  | 112 => ⟨S2x4x64x64, .f32⟩
  | 113 => ⟨S2x4x64x64, .f32⟩
  | 114 => ⟨S2x4x128x64, .f32⟩
  | 115 => ⟨S2x64x4x128, .f32⟩
  | 116 => ⟨S2x4x128x64, .f32⟩
  | 117 => ⟨S2x64x4x128, .f32⟩
  | 118 => ⟨S2x64x4x128, .f32⟩
  | 119 => ⟨S2x1x4x64, .f32⟩
  | 120 => ⟨S2x4x64, .f32⟩
  | 121 => ⟨S2x1x4x64, .f32⟩
  | 122 => ⟨S2x64x4x64, .f32⟩
  | 123 => ⟨S2x64x4x64, .f32⟩
  | 124 => ⟨S2x64x4x64, .f32⟩
  | 125 => ⟨S2x64x4x64, .f32⟩
  | 126 => ⟨S2x4x64, .f32⟩
  | 127 => ⟨S2x4x64x1, .f32⟩
  | _ => ⟨S16384x256, .f32⟩

abbrev hbmTy0_1 (i : Nat) : BufTy := match i % 128 with
  | 0 => ⟨S2x4x64x128, .f32⟩
  | 1 => ⟨S2x4x64x128, .f32⟩
  | 2 => ⟨S2x4x64x128, .f32⟩
  | 3 => ⟨S2x4x64x128, .f32⟩
  | 4 => ⟨S1x2x64x4x128, .f32⟩
  | 5 => ⟨S_, .i32⟩
  | 6 => ⟨S_, .i32⟩
  | 7 => ⟨S_, .i32⟩
  | 8 => ⟨S_, .i32⟩
  | 9 => ⟨S128x2x64x4x128, .f32⟩
  | 10 => ⟨S_, .i32⟩
  | 11 => ⟨S_, .i32⟩
  | 12 => ⟨S2x128x64x4x128, .f32⟩
  | 13 => ⟨S2x8192x4x128, .f32⟩
  | 14 => ⟨S2x8192x4x128, .f32⟩
  | 15 => ⟨S_, .f32⟩
  | 16 => ⟨S2x8192x4, .f32⟩
  | 17 => ⟨S2x8192x4x1, .f32⟩
  | 18 => ⟨S_, .f32⟩
  | 19 => ⟨S2x8192x4x1, .f32⟩
  | 20 => ⟨S2x8192x4x1, .f32⟩
  | 21 => ⟨S_, .f32⟩
  | 22 => ⟨S2x8192x4x1, .f32⟩
  | 23 => ⟨S2x8192x4x1, .f32⟩
  | 24 => ⟨S2x8192x4x1, .f32⟩
  | 25 => ⟨S2x8192x4x128, .f32⟩
  | 26 => ⟨S2x8192x4x128, .f32⟩
  | 27 => ⟨S1x4x128, .f32⟩
  | 28 => ⟨S4x128, .f32⟩
  | 29 => ⟨S1x1x4x128, .f32⟩
  | 30 => ⟨S2x8192x4x128, .f32⟩
  | 31 => ⟨S2x8192x4x128, .f32⟩
  | 32 => ⟨S2x8192x4x128, .f32⟩
  | 33 => ⟨S2x8192x4x128, .f32⟩
  | 34 => ⟨S2x8192x4x128, .f32⟩
  | 35 => ⟨S_, .f32⟩
  | 36 => ⟨S2x8192x4x128, .f32⟩
  | 37 => ⟨S2x8192x4x128, .f32⟩
  | 38 => ⟨S_, .f32⟩
  | 39 => ⟨S2x8192x4x128, .f32⟩
  | 40 => ⟨S2x8192x4x128, .f32⟩
  | 41 => ⟨S2x8192x4x128, .f32⟩
  | 42 => ⟨S2x8192x4x128, .f32⟩
  | 43 => ⟨S2x4x128x64, .f32⟩
  | 44 => ⟨S_, .i32⟩
  | 45 => ⟨S_, .f32⟩
  | 46 => ⟨S2x4x128x128, .f32⟩
  | 47 => ⟨S16384x512, .f32⟩
  | 48 => ⟨S16384x512, .bf16⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_0 : Ref sig .tc := ⟨.hbm, 43, rfl⟩
abbrev main_call1_v5 : Ref sig .tc := ⟨.hbm, 44, rfl⟩
abbrev main_v14 : Ref sig .tc := ⟨.hbm, 45, rfl⟩
abbrev main_cst_0 : Ref sig .tc := ⟨.hbm, 46, rfl⟩
abbrev main_v15 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_2 : Ref sig .tc := ⟨.hbm, 63, rfl⟩
abbrev main_v30 : Ref sig .tc := ⟨.hbm, 64, rfl⟩
abbrev main_c_3 : Ref sig .tc := ⟨.hbm, 65, rfl⟩
abbrev main_v31_0 : Ref sig .tc := ⟨.hbm, 66, rfl⟩
abbrev main_v31_1 : Ref sig .tc := ⟨.hbm, 67, rfl⟩
abbrev main_v31_2 : Ref sig .tc := ⟨.hbm, 68, rfl⟩
abbrev main_v31_3 : Ref sig .tc := ⟨.hbm, 69, rfl⟩
abbrev main_v31_4 : Ref sig .tc := ⟨.hbm, 70, rfl⟩
abbrev main_v31_5 : Ref sig .tc := ⟨.hbm, 71, rfl⟩
abbrev main_v31_6 : Ref sig .tc := ⟨.hbm, 72, rfl⟩
abbrev main_v31_7 : Ref sig .tc := ⟨.hbm, 73, rfl⟩
abbrev main_while0c_c_15 : Ref sig .tc := ⟨.hbm, 74, rfl⟩
abbrev main_while0c_v56 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v0 : Ref sig .tc := ⟨.hbm, 80, rfl⟩
abbrev main_while0b_v56 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_call3_v0 : Ref sig .tc := ⟨.hbm, 86, rfl⟩
abbrev main_while0b_v57 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_call4_c_2 : Ref sig .tc := ⟨.hbm, 91, rfl⟩
abbrev main_while0b_call4_v0 : Ref sig .tc := ⟨.hbm, 92, rfl⟩
abbrev main_while0b_v58 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_call5_v0 : Ref sig .tc := ⟨.hbm, 98, rfl⟩
abbrev main_while0b_v59 : Ref sig .tc := ⟨.hbm, 99, rfl⟩
abbrev main_while0b_call6_call0_cst : Ref sig .tc := ⟨.hbm, 100, rfl⟩
abbrev main_while0b_call6_call0_v0 : Ref sig .tc := ⟨.hbm, 101, rfl⟩
abbrev main_while0b_v60 : Ref sig .tc := ⟨.hbm, 102, rfl⟩
abbrev main_while0b_v61 : Ref sig .tc := ⟨.hbm, 103, rfl⟩
abbrev main_while0b_v62 : Ref sig .tc := ⟨.hbm, 104, rfl⟩
abbrev main_while0b_v63 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_cst_15 : Ref sig .tc := ⟨.hbm, 109, rfl⟩
abbrev main_while0b_call7_v0 : Ref sig .tc := ⟨.hbm, 110, rfl⟩
abbrev main_while0b_call7_v1 : Ref sig .tc := ⟨.hbm, 111, rfl⟩
abbrev main_while0b_call7_v2 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_call8_v0 : Ref sig .tc := ⟨.hbm, 132, rfl⟩
abbrev main_while0b_call8_c : Ref sig .tc := ⟨.hbm, 133, rfl⟩
abbrev main_while0b_call8_c_0 : Ref sig .tc := ⟨.hbm, 134, rfl⟩
abbrev main_while0b_call8_c_1 : Ref sig .tc := ⟨.hbm, 135, rfl⟩
abbrev main_while0b_call8_c_2 : Ref sig .tc := ⟨.hbm, 136, rfl⟩
abbrev main_while0b_v86 : Ref sig .tc := ⟨.hbm, 137, rfl⟩
abbrev main_while0b_c_16 : Ref sig .tc := ⟨.hbm, 138, rfl⟩
abbrev main_while0b_v87 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_cst_4 : Ref sig .tc := ⟨.hbm, 143, rfl⟩
abbrev main_v35 : Ref sig .tc := ⟨.hbm, 144, rfl⟩
abbrev main_v36 : Ref sig .tc := ⟨.hbm, 145, rfl⟩
abbrev main_cst_5 : Ref sig .tc := ⟨.hbm, 146, rfl⟩
abbrev main_v37 : Ref sig .tc := ⟨.hbm, 147, rfl⟩
abbrev main_v38 : Ref sig .tc := ⟨.hbm, 148, rfl⟩
abbrev main_cst_6 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_call9_v0 : Ref sig .tc := ⟨.hbm, 161, rfl⟩
abbrev main_call9_v1 : Ref sig .tc := ⟨.hbm, 162, rfl⟩
abbrev main_call9_cst : Ref sig .tc := ⟨.hbm, 163, rfl⟩
abbrev main_call9_v2 : Ref sig .tc := ⟨.hbm, 164, rfl⟩
abbrev main_call9_v3 : Ref sig .tc := ⟨.hbm, 165, rfl⟩
abbrev main_call9_cst_0 : Ref sig .tc := ⟨.hbm, 166, rfl⟩
abbrev main_call9_v4 : Ref sig .tc := ⟨.hbm, 167, rfl⟩
abbrev main_call9_v5 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_c_7 : Ref sig .tc := ⟨.hbm, 172, rfl⟩
abbrev main_call10_v0 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x2048 : Shape := ⟨2, ![16384, 2048]⟩
abbrev S4x2048 : Shape := ⟨2, ![4, 2048]⟩
abbrev S4x2048x5632 : Shape := ⟨3, ![4, 2048, 5632]⟩
abbrev S4x3x5632 : Shape := ⟨3, ![4, 3, 5632]⟩
abbrev S4x5632 : Shape := ⟨2, ![4, 5632]⟩
abbrev S4x5632x2048 : Shape := ⟨3, ![4, 5632, 2048]⟩
abbrev S4x1x2048 : Shape := ⟨3, ![4, 1, 2048]⟩
abbrev S4x1x5632 : Shape := ⟨3, ![4, 1, 5632]⟩
abbrev S16x8x5632 : Shape := ⟨3, ![16, 8, 5632]⟩
abbrev S1024x2048 : Shape := ⟨2, ![1024, 2048]⟩
abbrev S16x2048 : Shape := ⟨2, ![16, 2048]⟩
abbrev S1x1x2048 : Shape := ⟨3, ![1, 1, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S1x8x512 : Shape := ⟨3, ![1, 8, 512]⟩
abbrev S1040x2048 : Shape := ⟨2, ![1040, 2048]⟩
abbrev S1x2048 : Shape := ⟨2, ![1, 2048]⟩
abbrev S16 : Shape := ⟨1, ![16]⟩
abbrev S16x1 : Shape := ⟨2, ![16, 1]⟩
abbrev S512x2048 : Shape := ⟨2, ![512, 2048]⟩
abbrev S512 : Shape := ⟨1, ![512]⟩
abbrev S512x1 : Shape := ⟨2, ![512, 1]⟩
abbrev S528x2048 : Shape := ⟨2, ![528, 2048]⟩
abbrev S2048x512 : Shape := ⟨2, ![2048, 512]⟩
abbrev S528x512 : Shape := ⟨2, ![528, 512]⟩
abbrev S512x512 : Shape := ⟨2, ![512, 512]⟩
abbrev S1x512 : Shape := ⟨2, ![1, 512]⟩
abbrev S8x512 : Shape := ⟨2, ![8, 512]⟩

abbrev nBuf : Space → Nat
  | .hbm => 14
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x3x5632, .f32⟩
  | .hbm, ⟨5, _⟩ => ⟨S4x5632, .f32⟩
  | .hbm, ⟨6, _⟩ => ⟨S4x5632x2048, .f32⟩
  | .hbm, ⟨7, _⟩ => ⟨S4x1x2048, .f32⟩
  | .hbm, ⟨8, _⟩ => ⟨S4x2048x5632, .bf16⟩
  | .hbm, ⟨9, _⟩ => ⟨S4x2048x5632, .bf16⟩
  | .hbm, ⟨10, _⟩ => ⟨S4x1x5632, .f32⟩
  | .hbm, ⟨11, _⟩ => ⟨S4x5632x2048, .bf16⟩
  | .hbm, ⟨12, _⟩ => ⟨S16384x2048, .f32⟩
  | .hbm, ⟨13, _⟩ => ⟨S16x8x5632, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x512x2048, .bf16⟩
  | .local _ .vmem, ⟨14, _⟩ => ⟨S1x512x2048, .bf16⟩
  | .local _ .vmem, ⟨15, _⟩ => ⟨S1024x2048, .f32⟩
  | .local _ .vmem, ⟨16, _⟩ => ⟨S1024x2048, .f32⟩
  | .local _ .vmem, ⟨17, _⟩ => ⟨S1x8x512, .f32⟩
  | .local _ .vmem, ⟨18, _⟩ => ⟨S1x8x512, .f32⟩
  | .local _ .vmem, ⟨19, _⟩ => ⟨S1040x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16384x2048 : Shape := ⟨2, ![16384, 2048]⟩
abbrev S4x2048 : Shape := ⟨2, ![4, 2048]⟩
abbrev S4x2048x5632 : Shape := ⟨3, ![4, 2048, 5632]⟩
abbrev S4x3x5632 : Shape := ⟨3, ![4, 3, 5632]⟩
abbrev S4x5632 : Shape := ⟨2, ![4, 5632]⟩
abbrev S4x5632x2048 : Shape := ⟨3, ![4, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S1x2048x5632 : Shape := ⟨3, ![1, 2048, 5632]⟩
abbrev S2048x5632 : Shape := ⟨2, ![2048, 5632]⟩
abbrev S16384x5632 : Shape := ⟨2, ![16384, 5632]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S1x5632 : Shape := ⟨2, ![1, 5632]⟩
abbrev S5632 : Shape := ⟨1, ![5632]⟩
abbrev S1x1x5632 : Shape := ⟨3, ![1, 1, 5632]⟩
abbrev S1x5632x2048 : Shape := ⟨3, ![1, 5632, 2048]⟩
abbrev S5632x2048 : Shape := ⟨2, ![5632, 2048]⟩
abbrev S16x1024x5632 : Shape := ⟨3, ![16, 1024, 5632]⟩
abbrev S16x8x5632 : Shape := ⟨3, ![16, 8, 5632]⟩

abbrev nBuf : Space → Nat
  | .hbm => 77
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x3x5632, .f32⟩
  | .hbm, ⟨5, _⟩ => ⟨S4x5632, .f32⟩
  | .hbm, ⟨6, _⟩ => ⟨S4x5632x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S1x2048x5632, .f32⟩
  | .hbm, ⟨26, _⟩ => ⟨S2048x5632, .f32⟩
  | .hbm, ⟨27, _⟩ => ⟨S16384x5632, .f32⟩
  | .hbm, ⟨28, _⟩ => ⟨S2x8192x5632, .f32⟩
  | .hbm, ⟨29, _⟩ => ⟨S_, .f32⟩
  | .hbm, ⟨30, _⟩ => ⟨S2x2x5632, .f32⟩
  | .hbm, ⟨31, _⟩ => ⟨S2x8194x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S5632, .f32⟩
  | .hbm, ⟨36, _⟩ => ⟨S2x8192x5632, .f32⟩
  | .hbm, ⟨37, _⟩ => ⟨S1x1x5632, .f32⟩
  | .hbm, ⟨38, _⟩ => ⟨S2x8192x5632, .f32⟩
  | .hbm, ⟨39, _⟩ => ⟨S2x8192x5632, .f32⟩
  | .hbm, ⟨40, _⟩ => ⟨S1x1x5632, .f32⟩
  | .hbm, ⟨41, _⟩ => ⟨S2x8192x5632, .f32⟩
  | .hbm, ⟨42, _⟩ => ⟨S2x8192x5632, .f32⟩
  | .hbm, ⟨43, _⟩ => ⟨S1x1x5632, .f32⟩
  | .hbm, ⟨44, _⟩ => ⟨S5632, .f32⟩
  | .hbm, ⟨45, _⟩ => ⟨S2x8192x5632, .f32⟩
  | .hbm, ⟨46, _⟩ => ⟨S1x1x5632, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S1x1x5632, .f32⟩
  | .hbm, ⟨51, _⟩ => ⟨S5632, .f32⟩
  | .hbm, ⟨52, _⟩ => ⟨S2x8192x5632, .f32⟩
  | .hbm, ⟨53, _⟩ => ⟨S1x1x5632, .f32⟩
  | .hbm, ⟨54, _⟩ => ⟨S2x8192x5632, .f32⟩
  | .hbm, ⟨55, _⟩ => ⟨S2x8192x5632, .f32⟩
  | .hbm, ⟨56, _⟩ => ⟨S2x8192x5632, .f32⟩
  | .hbm, ⟨57, _⟩ => ⟨S16384x5632, .f32⟩
  | .hbm, ⟨58, _⟩ => ⟨S16384x5632, .f32⟩
  | .hbm, ⟨59, _⟩ => ⟨S16384x5632, .f32⟩
  | .hbm, ⟨60, _⟩ => ⟨S_, .f32⟩
  | .hbm, ⟨61, _⟩ => ⟨S16384x5632, .f32⟩
  | .hbm, ⟨62, _⟩ => ⟨S16384x5632, .f32⟩
  | .hbm, ⟨63, _⟩ => ⟨S_, .f32⟩
  | .hbm, ⟨64, _⟩ => ⟨S16384x5632, .f32⟩
  | .hbm, ⟨65, _⟩ => ⟨S16384x5632, .f32⟩
  | .hbm, ⟨66, _⟩ => ⟨S16384x5632, .f32⟩
  | .hbm, ⟨67, _⟩ => ⟨S1x2048x5632, .f32⟩
  | .hbm, ⟨68, _⟩ => ⟨S2048x5632, .f32⟩
  | .hbm, ⟨69, _⟩ => ⟨S16384x5632, .f32⟩
  | .hbm, ⟨70, _⟩ => ⟨S16384x5632, .f32⟩
  | .hbm, ⟨71, _⟩ => ⟨S1x5632x2048, .f32⟩
  | .hbm, ⟨72, _⟩ => ⟨S5632x2048, .f32⟩
  | .hbm, ⟨73, _⟩ => ⟨S16384x2048, .f32⟩
  | .hbm, ⟨74, _⟩ => ⟨S16384x2048, .f32⟩
  | .hbm, ⟨75, _⟩ => ⟨S16x1024x5632, .f32⟩
  | .hbm, ⟨76, _⟩ => ⟨S16x8x5632, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel3.lean ====
abbrev S16384x2048 : Shape := ⟨2, ![16384, 2048]⟩
abbrev S16384x512 : Shape := ⟨2, ![16384, 512]⟩
abbrev S16384x1024 : Shape := ⟨2, ![16384, 1024]⟩
abbrev S4x2048x2048 : Shape := ⟨3, ![4, 2048, 2048]⟩
abbrev S512x2048 : Shape := ⟨2, ![512, 2048]⟩
abbrev S512x512 : Shape := ⟨2, ![512, 512]⟩
abbrev S512x1024 : Shape := ⟨2, ![512, 1024]⟩
abbrev S1x2048x2048 : Shape := ⟨3, ![1, 2048, 2048]⟩
abbrev S1x512x2048 : Shape := ⟨3, ![1, 512, 2048]⟩
abbrev S1x1024x2048 : Shape := ⟨3, ![1, 1024, 2048]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S4x2048x2048, .f32⟩
  | .hbm, ⟨5, _⟩ => ⟨S4x2048x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S16384x512 : Shape := ⟨2, ![16384, 512]⟩
abbrev S16384x1024 : Shape := ⟨2, ![16384, 1024]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S4x2048x2048, .f32⟩
  | .hbm, ⟨5, _⟩ => ⟨S16384x512, .f32⟩
  | .hbm, ⟨6, _⟩ => ⟨S16384x512, .f32⟩
  | .hbm, ⟨7, _⟩ => ⟨S16384x1024, .f32⟩
  | .hbm, ⟨8, _⟩ => ⟨S16384x2048, .f32⟩
  | .hbm, ⟨9, _⟩ => ⟨S1x2048x2048, .f32⟩
  | .hbm, ⟨10, _⟩ => ⟨S2048x2048, .f32⟩
  | .hbm, ⟨11, _⟩ => ⟨S16384x2048, .f32⟩
  | .hbm, ⟨12, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S16384x512 : Shape := ⟨2, ![16384, 512]⟩
abbrev S4x4x128x128 : Shape := ⟨4, ![4, 4, 128, 128]⟩
abbrev S4x4x128 : Shape := ⟨3, ![4, 4, 128]⟩
abbrev S_ : Shape := ⟨0, ![]⟩
abbrev S16384x3072 : Shape := ⟨2, ![16384, 3072]⟩
abbrev S16384x4096 : Shape := ⟨2, ![16384, 4096]⟩
abbrev S1x4x128x128 : Shape := ⟨4, ![1, 4, 128, 128]⟩
abbrev S4x128x128 : Shape := ⟨3, ![4, 128, 128]⟩
abbrev S4x4x128x1 : Shape := ⟨4, ![4, 4, 128, 1]⟩
abbrev S1x4x128x1 : Shape := ⟨4, ![1, 4, 128, 1]⟩
abbrev S4x128x1 : Shape := ⟨3, ![4, 128, 1]⟩
abbrev S512x512 : Shape := ⟨2, ![512, 512]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 14
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S4x4x128x128, .f32⟩
  | .hbm, ⟨3, _⟩ => ⟨S4x4x128, .f32⟩
  | .hbm, ⟨4, _⟩ => ⟨S_, .f32⟩
  | .hbm, ⟨5, _⟩ => ⟨S16384x3072, .f32⟩
  | .hbm, ⟨6, _⟩ => ⟨S16384x4096, .f32⟩
  | .hbm, ⟨7, _⟩ => ⟨S16384x4096, .bf16⟩
  | .hbm, ⟨8, _⟩ => ⟨S1x4x128x128, .f32⟩
  | .hbm, ⟨9, _⟩ => ⟨S4x128x128, .f32⟩
  | .hbm, ⟨10, _⟩ => ⟨S4x4x128x1, .f32⟩
  | .hbm, ⟨11, _⟩ => ⟨S1x4x128x1, .f32⟩
  | .hbm, ⟨12, _⟩ => ⟨S4x128x1, .f32⟩
  | .hbm, ⟨13, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4x128x128, .f32⟩
  | .local _ .vmem, ⟨5, _⟩ => ⟨S4x128x1, .f32⟩
  | .local _ .vmem, ⟨6, _⟩ => ⟨S512x512, .bf16⟩
  | .local _ .vmem, ⟨7, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x512 : Shape := ⟨2, ![16384, 512]⟩
abbrev S4x4x128x128 : Shape := ⟨4, ![4, 4, 128, 128]⟩
abbrev S4x4x128 : Shape := ⟨3, ![4, 4, 128]⟩
abbrev S2x8192x4x128 : Shape := ⟨4, ![2, 8192, 4, 128]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S_ : Shape := ⟨0, ![]⟩
abbrev S2x8192x4 : Shape := ⟨3, ![2, 8192, 4]⟩
abbrev S2x8192x4x1 : Shape := ⟨4, ![2, 8192, 4, 1]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S2x64x128x4x128 : Shape := ⟨5, ![2, 64, 128, 4, 128]⟩
abbrev S4x2x64x128x128 : Shape := ⟨5, ![4, 2, 64, 128, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 126
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S4x4x128x128, .f32⟩
  | .hbm, ⟨3, _⟩ => ⟨S4x4x128, .f32⟩
  | .hbm, ⟨4, _⟩ => ⟨S2x8192x4x128, .f32⟩
  | .hbm, ⟨5, _⟩ => ⟨S2x8192x4x128, .f32⟩
  | .hbm, ⟨6, _⟩ => ⟨S1x4x128x128, .f32⟩
  | .hbm, ⟨7, _⟩ => ⟨S4x128x128, .f32⟩
  | .hbm, ⟨8, _⟩ => ⟨S1x4x128, .f32⟩
  | .hbm, ⟨9, _⟩ => ⟨S4x128, .f32⟩
  | .hbm, ⟨10, _⟩ => ⟨S2x8192x4x128, .f32⟩
  | .hbm, ⟨11, _⟩ => ⟨S2x8192x4x128, .f32⟩
  | .hbm, ⟨12, _⟩ => ⟨S_, .f32⟩
  | .hbm, ⟨13, _⟩ => ⟨S2x8192x4x128, .f32⟩
  | .hbm, ⟨14, _⟩ => ⟨S2x8192x4x128, .f32⟩
  | .hbm, ⟨15, _⟩ => ⟨S2x8192x4x128, .f32⟩
  | .hbm, ⟨16, _⟩ => ⟨S_, .f32⟩
  | .hbm, ⟨17, _⟩ => ⟨S2x8192x4x128, .f32⟩
  | .hbm, ⟨18, _⟩ => ⟨S2x8192x4x128, .f32⟩
  | .hbm, ⟨19, _⟩ => ⟨S2x8192x4x128, .f32⟩
  | .hbm, ⟨20, _⟩ => ⟨S_, .f32⟩
  | .hbm, ⟨21, _⟩ => ⟨S2x8192x4x128, .f32⟩
  | .hbm, ⟨22, _⟩ => ⟨S2x8192x4x128, .f32⟩
  | .hbm, ⟨23, _⟩ => ⟨S_, .f32⟩
  | .hbm, ⟨24, _⟩ => ⟨S2x8192x4x128, .f32⟩
  | .hbm, ⟨25, _⟩ => ⟨S2x8192x4x128, .f32⟩
  | .hbm, ⟨26, _⟩ => ⟨S2x8192x4x128, .f32⟩
  | .hbm, ⟨27, _⟩ => ⟨S2x8192x4x128, .f32⟩
  | .hbm, ⟨28, _⟩ => ⟨S2x8192x4x128, .f32⟩
  | .hbm, ⟨29, _⟩ => ⟨S_, .f32⟩
  | .hbm, ⟨30, _⟩ => ⟨S2x8192x4x128, .f32⟩
  | .hbm, ⟨31, _⟩ => ⟨S2x8192x4x128, .f32⟩
  | .hbm, ⟨32, _⟩ => ⟨S2x8192x4x128, .f32⟩
  | .hbm, ⟨33, _⟩ => ⟨S_, .f32⟩
  | .hbm, ⟨34, _⟩ => ⟨S2x8192x4x128, .f32⟩
  | .hbm, ⟨35, _⟩ => ⟨S2x8192x4x128, .f32⟩
  | .hbm, ⟨36, _⟩ => ⟨S2x8192x4x128, .f32⟩
  | .hbm, ⟨37, _⟩ => ⟨S_, .f32⟩
  | .hbm, ⟨38, _⟩ => ⟨S2x8192x4x128, .f32⟩
  | .hbm, ⟨39, _⟩ => ⟨S2x8192x4x128, .f32⟩
  | .hbm, ⟨40, _⟩ => ⟨S_, .f32⟩
  | .hbm, ⟨41, _⟩ => ⟨S2x8192x4x128, .f32⟩
  | .hbm, ⟨42, _⟩ => ⟨S2x8192x4x128, .f32⟩
  | .hbm, ⟨43, _⟩ => ⟨S2x8192x4x128, .f32⟩
  | .hbm, ⟨44, _⟩ => ⟨S_, .f32⟩
  | .hbm, ⟨45, _⟩ => ⟨S2x8192x4, .f32⟩
  | .hbm, ⟨46, _⟩ => ⟨S2x8192x4x1, .f32⟩
  | .hbm, ⟨47, _⟩ => ⟨S_, .f32⟩
  | .hbm, ⟨48, _⟩ => ⟨S2x8192x4x1, .f32⟩
  | .hbm, ⟨49, _⟩ => ⟨S2x8192x4x1, .f32⟩
  | .hbm, ⟨50, _⟩ => ⟨S2x8192x4x128, .f32⟩
  | .hbm, ⟨51, _⟩ => ⟨S2x8192x4x128, .f32⟩
  | .hbm, ⟨52, _⟩ => ⟨S2x8192x4x128, .f32⟩
  | .hbm, ⟨53, _⟩ => ⟨S_, .f32⟩
  | .hbm, ⟨54, _⟩ => ⟨S2x8192x4, .f32⟩
  | .hbm, ⟨55, _⟩ => ⟨S2x8192x4x1, .f32⟩
  | .hbm, ⟨56, _⟩ => ⟨S_, .f32⟩
  | .hbm, ⟨57, _⟩ => ⟨S2x8192x4x1, .f32⟩
  | .hbm, ⟨58, _⟩ => ⟨S2x8192x4x1, .f32⟩
  | .hbm, ⟨59, _⟩ => ⟨S2x8192x4x128, .f32⟩
  | .hbm, ⟨60, _⟩ => ⟨S2x8192x4x128, .f32⟩
  | .hbm, ⟨61, _⟩ => ⟨S_, .f32⟩
  | .hbm, ⟨62, _⟩ => ⟨S2x8192x4x1, .f32⟩
  | .hbm, ⟨63, _⟩ => ⟨S2x8192x4x1, .f32⟩
  | .hbm, ⟨64, _⟩ => ⟨S2x8192x4x1, .f32⟩
  | .hbm, ⟨65, _⟩ => ⟨S2x8192x4x128, .f32⟩
  | .hbm, ⟨66, _⟩ => ⟨S2x8192x4x128, .f32⟩
  | .hbm, ⟨67, _⟩ => ⟨S128, .i32⟩
  | .hbm, ⟨68, _⟩ => ⟨S1x128, .i32⟩
  | .hbm, ⟨69, _⟩ => ⟨S_, .i32⟩
  | .hbm, ⟨70, _⟩ => ⟨S_, .i32⟩
  | .hbm, ⟨71, _⟩ => ⟨S1x128, .i32⟩
  | .hbm, ⟨72, _⟩ => ⟨S1x128, .i32⟩
  | .hbm, ⟨73, _⟩ => ⟨S1x128, .i32⟩
  | .hbm, ⟨74, _⟩ => ⟨S_, .i32⟩
  | .hbm, ⟨75, _⟩ => ⟨S1x128, .i32⟩
  | .hbm, ⟨76, _⟩ => ⟨S1x128, .i1⟩
  | .hbm, ⟨77, _⟩ => ⟨S1x128, .i32⟩
  | .hbm, ⟨78, _⟩ => ⟨S1x128, .i32⟩
  | .hbm, ⟨79, _⟩ => ⟨S_, .i32⟩
  | .hbm, ⟨80, _⟩ => ⟨S1x128, .i32⟩
  | .hbm, ⟨81, _⟩ => ⟨S1x128, .i1⟩
  | .hbm, ⟨82, _⟩ => ⟨S1x128, .i1⟩
  | .hbm, ⟨83, _⟩ => ⟨S_, .i32⟩
  | .hbm, ⟨84, _⟩ => ⟨S1x128, .i32⟩
  | .hbm, ⟨85, _⟩ => ⟨S1x128, .i32⟩
  | .hbm, ⟨86, _⟩ => ⟨S1x128, .i32⟩
  | .hbm, ⟨87, _⟩ => ⟨S128x1, .i32⟩
  | .hbm, ⟨88, _⟩ => ⟨S_, .i32⟩
  | .hbm, ⟨89, _⟩ => ⟨S_, .i32⟩
  | .hbm, ⟨90, _⟩ => ⟨S128x1, .i32⟩
  | .hbm, ⟨91, _⟩ => ⟨S128x1, .i32⟩
  | .hbm, ⟨92, _⟩ => ⟨S128x1, .i32⟩
  | .hbm, ⟨93, _⟩ => ⟨S_, .i32⟩
  | .hbm, ⟨94, _⟩ => ⟨S128x1, .i32⟩
  | .hbm, ⟨95, _⟩ => ⟨S128x1, .i1⟩
  | .hbm, ⟨96, _⟩ => ⟨S128x1, .i32⟩
  | .hbm, ⟨97, _⟩ => ⟨S128x1, .i32⟩
  | .hbm, ⟨98, _⟩ => ⟨S_, .i32⟩
  | .hbm, ⟨99, _⟩ => ⟨S128x1, .i32⟩
  | .hbm, ⟨100, _⟩ => ⟨S128x1, .i1⟩
  | .hbm, ⟨101, _⟩ => ⟨S128x1, .i1⟩
  | .hbm, ⟨102, _⟩ => ⟨S_, .i32⟩
  | .hbm, ⟨103, _⟩ => ⟨S128x1, .i32⟩
  | .hbm, ⟨104, _⟩ => ⟨S128x1, .i32⟩
  | .hbm, ⟨105, _⟩ => ⟨S128x1, .i32⟩
  | .hbm, ⟨106, _⟩ => ⟨S128x128, .i32⟩
  | .hbm, ⟨107, _⟩ => ⟨S128x128, .i32⟩
  | .hbm, ⟨108, _⟩ => ⟨S128x128, .i1⟩
  | .hbm, ⟨109, _⟩ => ⟨S_, .f32⟩
  | .hbm, ⟨110, _⟩ => ⟨S_, .f32⟩
  | .hbm, ⟨111, _⟩ => ⟨S4x128x128, .i1⟩
  | .hbm, ⟨112, _⟩ => ⟨S4x128x128, .f32⟩
  | .hbm, ⟨113, _⟩ => ⟨S4x128x128, .f32⟩
  | .hbm, ⟨114, _⟩ => ⟨S2x64x128x4x128, .f32⟩
  | .hbm, ⟨115, _⟩ => ⟨S4x2x64x128x128, .f32⟩
  | .hbm, ⟨116, _⟩ => ⟨S2x64x128x4x128, .f32⟩
  | .hbm, ⟨117, _⟩ => ⟨S128x4, .f32⟩
  | .hbm, ⟨118, _⟩ => ⟨S128x4x1, .f32⟩
  | .hbm, ⟨119, _⟩ => ⟨S1x1x128x4x1, .f32⟩
  | .hbm, ⟨120, _⟩ => ⟨S2x64x128x4x128, .f32⟩
  | .hbm, ⟨121, _⟩ => ⟨S2x64x128x4x128, .f32⟩
  | .hbm, ⟨122, _⟩ => ⟨S2x8192x4x128, .f32⟩
  | .hbm, ⟨123, _⟩ => ⟨S2x8192x4x128, .f32⟩
  | .hbm, ⟨124, _⟩ => ⟨S2x8192x4x128, .bf16⟩
  | .hbm, ⟨125, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v52 : Ref sig .tc := ⟨.hbm, 86, rfl⟩
abbrev main_v53 : Ref sig .tc := ⟨.hbm, 87, rfl⟩
abbrev main_c_12 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_c : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_0 : Ref sig .tc := ⟨.hbm, 102, rfl⟩
abbrev main_call1_v12 : Ref sig .tc := ⟨.hbm, 103, rfl⟩
abbrev main_call1_v13 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_13 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩

abbrev nD : Nat := 1
abbrev τ : Topo := Topo.v7x

variable {F : FTy → Type} [FloatOps F]
-- ==== Proof.Cell.lean ====
/- One chunk of one head of the kernel's grid step, as terms over a chunk number `ci : Fin 8` and a head `h : Fin 4`.
   The printed step unrolls these 32 times; `Open.lean` shows that each printed tile is one of them. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Cell

open Cert.KernelIdeal Cert.KernelIdeal.Gen

variable {F : FTy → Type} [FloatOps F]

theorem sl_row : ∀ ci : Fin 8, S512x512.Slices ![64 * ci.val, 0] S64x512 := by decide
theorem sl_col : ∀ h : Fin 4, S64x512.Slices ![0, 128 * h.val] S64x128 := by decide
theorem sl_one : ∀ h : Fin 4, S1x512.Slices ![0, 128 * h.val] S1x128 := by decide
theorem in_tile : ∀ (ci : Fin 8) (h : Fin 4) (a : Fin 2),
    (![64 * ci.val, 128 * h.val] : Fin 2 → Nat) a + S64x128.size a ≤ S512x512.size a := by decide
theorem in_gn : ∀ (h : Fin 4) (a : Fin 3), (![0, 0, 128 * h.val] : Fin 3 → Nat) a + S1x1x128.size a ≤ S1x1x512.size a := by decide
theorem in_st : ∀ (h : Fin 4) (a : Fin 3), (![h.val, 0, 0] : Fin 3 → Nat) a + S1x128x128.size a ≤ S4x128x128.size a := by decide

/-- The tile of rows `64·ci …` and columns `128·h …` of a 512×512 block. -/
abbrev rTile (ci : Fin 8) (h : Fin 4) : Rect S512x512 := Rect.unit ![64 * ci.val, 128 * h.val] S64x128.size (in_tile ci h)
abbrev rGn (h : Fin 4) : Rect S1x1x512 := Rect.unit ![0, 0, 128 * h.val] S1x1x128.size (in_gn h)
abbrev rSt (h : Fin 4) : Rect S4x128x128 := Rect.unit ![h.val, 0, 0] S1x128x128.size (in_st h)

/-- The cumulative log decay of chunk `ci`: the lower triangle of ones times the two halves of the log decays. -/
def cum (hi lo : FVec F S512x512 .bf16) (ci : Fin 8) : FVec F S64x512 .f32 :=
  addf
    (matmul dot_S64x64_S64x512_S64x512_1_0_0_1_n_n none (k0_pay4 (F := F))
      (extractStridedSlice S64x512 ![64 * ci.val, 0] hi (sl_row ci)) (constant S64x512 .f32 0x00000000#32))
    (matmul dot_S64x64_S64x512_S64x512_1_0_0_1_n_n none (k0_pay4 (F := F))
      (extractStridedSlice S64x512 ![64 * ci.val, 0] lo (sl_row ci)) (constant S64x512 .f32 0x00000000#32))

/-- Head `h`'s columns of the chunk's cumulative log decay. -/
def cumH (cm : FVec F S64x512 .f32) (h : Fin 4) : FVec F S64x128 .f32 :=
  extractStridedSlice S64x128 ![0, 128 * h.val] cm (sl_col h)

/-- Head `h`'s columns of its last row. -/
def lastH (cm : FVec F S64x512 .f32) (h : Fin 4) : FVec F S1x128 .f32 :=
  extractStridedSlice S1x128 ![0, 128 * h.val] (extractStridedSlice S1x512 ![63, 0] cm slices_S64x512_o63_0_S1x512) (sl_one h)

def qe (cm : FVec F S64x512 .f32) (h : Fin 4) (q : Vec F S64x128 .bf16) : FVec F S64x128 .bf16 :=
  truncf .bf16 (mulf (mulf (extf .f32 (shapeCast S64x128 q shapeCasts_S64x128_S64x128) bitsLt_bf16_f32)
    (broadcast S64x128 (Scalar.ofBits .f32 0x3E000000#32))) (exp (cumH cm h))) bitsLt_bf16_f32

def ke (cm : FVec F S64x512 .f32) (h : Fin 4) (k : Vec F S64x128 .bf16) : FVec F S64x128 .bf16 :=
  truncf .bf16 (mulf (extf .f32 (shapeCast S64x128 k shapeCasts_S64x128_S64x128) bitsLt_bf16_f32)
    (exp (subf (broadcast S64x128 (Scalar.ofBits .f32 0x00000000#32)) (cumH cm h)))) bitsLt_bf16_f32

def kd (cm : FVec F S64x512 .f32) (h : Fin 4) (k : Vec F S64x128 .bf16) : FVec F S64x128 .bf16 :=
  truncf .bf16 (mulf (extf .f32 (shapeCast S64x128 k shapeCasts_S64x128_S64x128) bitsLt_bf16_f32)
    (exp (subf (broadcastTo S64x128 (lastH cm h) broadcasts_S1x128_S64x128) (cumH cm h)))) bitsLt_bf16_f32

def att (cm : FVec F S64x512 .f32) (h : Fin 4) (q k : Vec F S64x128 .bf16) : FVec F S64x64 .bf16 :=
  truncf .bf16 (select k0_pay3 (matmul dot_S64x128_S64x128_S64x64_1_1_0_0_n_n none (qe cm h q) (ke cm h k)
    (constant S64x64 .f32 0x00000000#32)) (broadcast S64x64 (Scalar.ofBits .f32 0x00000000#32))) bitsLt_bf16_f32

/-- The state after a chunk: decayed, plus the chunk's keys times its values. -/
def upd (cm : FVec F S64x512 .f32) (h : Fin 4) (k v : Vec F S64x128 .bf16) (s : FVec F S128x128 .f32) : FVec F S128x128 .f32 :=
  addf (mulf s (broadcastTo S128x128 (exp (lastH cm h)) broadcasts_S1x128_S128x128))
    (matmul dot_S64x128_S64x128_S128x128_0_0_1_1_n_n none (shapeCast S64x128 v shapeCasts_S64x128_S64x128) (kd cm h k)
      (constant S128x128 .f32 0x00000000#32))

/-- What the chunk's rows read of its own keys and values. -/
def loc (cm : FVec F S64x512 .f32) (h : Fin 4) (q k v : Vec F S64x128 .bf16) : FVec F S64x128 .f32 :=
  matmul dot_S64x64_S64x128_S64x128_1_0_0_1_n_n none (att cm h q k) (shapeCast S64x128 v shapeCasts_S64x128_S64x128)
    (constant S64x128 .f32 0x00000000#32)

/-- What they read of the state carried in. -/
def car (cm : FVec F S64x512 .f32) (h : Fin 4) (q : Vec F S64x128 .bf16) (s : FVec F S128x128 .f32) : FVec F S64x128 .f32 :=
  matmul dot_S64x128_S128x128_S64x128_1_1_0_0_n_n none (qe cm h q) (truncf .bf16 s bitsLt_bf16_f32)
    (constant S64x128 .f32 0x00000000#32)

variable (x0 x1 x2 x3 : Vec F S512x512 .bf16) (hi lo : FVec F S512x512 .bf16) (x7 : Vec F S1x1x512 .f32)
  (s0 : Fin 4 → FVec F S128x128 .f32)

/-- Head `h`'s state before chunk `n` of the grid step. -/
def stAt (h : Fin 4) : (n : ℕ) → n ≤ 8 → FVec F S128x128 .f32
  | 0, _ => s0 h
  | n + 1, hn => upd (cum hi lo ⟨n, hn⟩) h (View.ld x1 (rTile ⟨n, hn⟩ h)) (View.ld x2 (rTile ⟨n, hn⟩ h))
      (stAt h n (Nat.le_of_succ_le hn))

/-- The normed and gated output tile of chunk `ci` and head `h`. -/
def tile (ci : Fin 8) (h : Fin 4) : FVec F S64x128 .bf16 :=
  k0_pay518 (car (cum hi lo ci) h (View.ld x0 (rTile ci h)) (stAt x1 x2 hi lo s0 h ci (Nat.le_of_lt ci.isLt)))
    (loc (cum hi lo ci) h (View.ld x0 (rTile ci h)) (View.ld x1 (rTile ci h)) (View.ld x2 (rTile ci h)))
    (View.ld x7 (rGn h)) (View.ld x3 (rTile ci h))

end Cert.KernelIdeal.Cell

end
-- ==== Proof.Spec.lean ====
/- The gated linear attention recurrence of one head of one sequence over the extended reals, and the identities that relate the two programs' texts to it. -/
module

public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

namespace Cert.Gla

/-- The cumulative sum of the log decays of a chunk. -/
def cum (a : Fin 64 → Fin 64 → EReal) (t d : Fin 64) : EReal := ∑ s : Fin 64, if s ≤ t then a s d else 0

/-- The state after a chunk, of the state before it. -/
def stepS (k a : Fin 64 → Fin 64 → EReal) (v : Fin 64 → Fin 128 → EReal) (S : Fin 64 → Fin 128 → EReal) (d : Fin 64) (e : Fin 128) : EReal :=
  Ideal.exp (cum a 63 d) * S d e + ∑ s : Fin 64, k s d * Ideal.exp (cum a 63 d - cum a s d) * v s e

/-- What row `t` of a chunk reads: of the chunk's own keys and values up to it, and of the state before the chunk. -/
def outO (q k a : Fin 64 → Fin 64 → EReal) (v : Fin 64 → Fin 128 → EReal) (S : Fin 64 → Fin 128 → EReal) (t : Fin 64) (e : Fin 128) : EReal :=
  (∑ s : Fin 64, (if s ≤ t then ∑ d : Fin 64, q t d * Ideal.exp (cum a t d) * (k s d * Ideal.exp (-cum a s d)) else 0) * v s e)
    + ∑ d : Fin 64, q t d * Ideal.exp (cum a t d) * S d e

/-- The state before chunk `n` of a sequence that starts from zeros. -/
def state (k a : ℕ → Fin 64 → Fin 64 → EReal) (v : ℕ → Fin 64 → Fin 128 → EReal) : ℕ → Fin 64 → Fin 128 → EReal
  | 0 => fun _ _ => 0
  | n + 1 => stepS (k n) (a n) (v n) (state k a v n)

/-- The normed and gated row: `o` over its root mean square, times the gain `g`, times `r`'s silu. -/
def gate (o : Fin 128 → EReal) (g r : EReal) (e : Fin 128) : EReal :=
  o e * Ideal.rsqrt (Ideal.div (∑ x : Fin 128, o x * o x) (Ideal.ofBits .f32 0x43000000#32) + Ideal.ofBits .f32 0x358637BD#32) * g
    * (r * Ideal.div 1 (1 + Ideal.exp (-r)))

/-- A sixteenth of the log of the sigmoid. -/
def ls (x : EReal) : EReal :=
  Ideal.div (-(max (-x) 0 + Ideal.log (1 + Ideal.exp (-(max (-x) (-(-x))))))) (Ideal.ofBits .f32 0x41800000#32)

/-- Token `t` of chunk `c` of sequence `b`. -/
def row (b : Fin 2) (c : ℕ) (t : Fin 64) : Fin 16384 := ⟨(8192 * b.val + 64 * c + t.val) % 16384, by omega⟩

theorem row_of_lt (b : Fin 2) {c : ℕ} (hc : c < 128) (t : Fin 64) (h : 8192 * b.val + 64 * c + t.val < 16384) :
    row b c t = ⟨8192 * b.val + 64 * c + t.val, h⟩ := Fin.ext (Nat.mod_eq_of_lt h)

section Args

variable (gq gk : (⟨2, ![16384, 256]⟩ : Shape).Idx → EReal) (gv gr : (⟨2, ![16384, 512]⟩ : Shape).Idx → EReal)
  (glr : (⟨2, ![16384, 16]⟩ : Shape).Idx → EReal) (w : (⟨3, ![4, 16, 256]⟩ : Shape).Idx → EReal)
  (wb : (⟨2, ![4, 256]⟩ : Shape).Idx → EReal) (gn : (⟨3, ![4, 4, 128]⟩ : Shape).Idx → EReal) (b : Fin 2) (h : Fin 4)

/-- Column `d` of head `h` among 256, and column `e` of head `h` among 512. -/
abbrev col (h : Fin 4) (d : Fin 64) : Fin 256 := ⟨64 * h.val + d.val, by omega⟩
abbrev colV (h : Fin 4) (e : Fin 128) : Fin 512 := ⟨128 * h.val + e.val, by omega⟩

/-- The queries (scaled), keys, values and log decays of head `h` of sequence `b`, chunk by chunk. -/
def qOf (c : ℕ) (t d : Fin 64) : EReal := gq (ix2 (row b c t) (col h d)) * Ideal.ofBits .f32 0x3E000000#32
def kOf (c : ℕ) (t d : Fin 64) : EReal := gk (ix2 (row b c t) (col h d))
def vOf (c : ℕ) (t : Fin 64) (e : Fin 128) : EReal := gv (ix2 (row b c t) (colV h e))
def aOf (c : ℕ) (t d : Fin 64) : EReal :=
  ls (∑ x : Fin 16, glr (ix2 (row b c t) x) * w (ix3 0 x (col h d)) + wb (ix2 0 (col h d)))

/-- The state before chunk `c`, and what a row of the chunk reads. -/
def stateOf (c : ℕ) : Fin 64 → Fin 128 → EReal := state (kOf gk b h) (aOf glr w wb b h) (vOf gv b h) c
def oOf (c : ℕ) (t : Fin 64) (e : Fin 128) : EReal :=
  outO (qOf gq b h c) (kOf gk b h c) (aOf glr w wb b h c) (vOf gv b h c) (stateOf gk gv glr w wb b h c) t e

/-- The two results: the gated rows, and the last states transposed and padded to 128 lanes. -/
def obOf (c : ℕ) (t : Fin 64) (e : Fin 128) : EReal :=
  gate (oOf gq gk gv glr w wb b h c t) (gn (ix3 0 h e)) (gr (ix2 (row b c t) (colV h e))) e
def padT (S : Fin 64 → Fin 128 → EReal) (e d : Fin 128) : EReal := if hd : d.val < 64 then S ⟨d.val, hd⟩ e else 0

end Args

theorem lit16 : Ideal.ofBits .f32 0x41800000#32 = ((16 : ℝ) : EReal) := by
  simp [Ideal.ofBits, Ideal.ieee]
  rw [← EReal.coe_mul]; norm_num

theorem litSixteenth : Ideal.ofBits .f32 0x3D800000#32 = ((1 / 16 : ℝ) : EReal) := by
  simp [Ideal.ofBits, Ideal.ieee]
  rw [← EReal.coe_mul]; norm_num

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem log_one : Ideal.log 1 = 0 := by
  rw [← EReal.coe_one, Ideal.log_coe, if_neg (by norm_num), Real.log_one, EReal.coe_zero]

/-- The kernel's text of `ls`. -/
theorem ls_eq (x : EReal) :
    (min x 0 - Ideal.log (1 + Ideal.exp (0 - max x (-x)))) * Ideal.ofBits .f32 0x3D800000#32 = ls x := by
  unfold ls
  rw [lit16, Ideal.div_coe (by norm_num), litSixteenth, neg_neg, zero_sub, max_comm (-x) x]
  congr 1
  induction x using EReal.rec with
  | bot => simp [log_one]
  | top => simp [log_one]
  | coe r =>
    have e1 : max (r : EReal) (-(r : EReal)) = ((max r (-r) : ℝ) : EReal) := by rw [← EReal.coe_neg]; exact coe_max r (-r)
    have e2 : min (r : EReal) 0 = ((min r 0 : ℝ) : EReal) := coe_min r 0
    have e3 : max (-(r : EReal)) 0 = ((max (-r) 0 : ℝ) : EReal) := by rw [← EReal.coe_neg]; exact coe_max (-r) 0
    have h0 : ¬ 1 + Real.exp (-(max r (-r))) ≤ 0 := by have := Real.exp_pos (-(max r (-r))); linarith
    have e4 : Ideal.log (1 + Ideal.exp (-((max r (-r) : ℝ) : EReal))) = ((Real.log (1 + Real.exp (-(max r (-r)))) : ℝ) : EReal) := by
      rw [← EReal.coe_neg, Ideal.exp_coe, ← EReal.coe_one, ← EReal.coe_add, Ideal.log_coe, if_neg h0]
    rw [e1, e2, e3, e4, ← EReal.coe_sub, ← EReal.coe_add, ← EReal.coe_neg]
    congr 1
    have : min r 0 = -(max (-r) 0) := by
      rcases le_total r 0 with h | h
      · rw [min_eq_left h, max_eq_left (by linarith), neg_neg]
      · rw [min_eq_right h, max_eq_right (by linarith), neg_zero]
    rw [this]; ring

theorem ls_ne_top (x : EReal) : ls x ≠ ⊤ := by
  unfold ls
  rw [lit16, Ideal.div_coe (by norm_num)]
  have h : -(max (-x) 0 + Ideal.log (1 + Ideal.exp (-(max (-x) (-(-x)))))) ≤ 0 := by
    rw [EReal.neg_le, neg_zero]
    refine add_nonneg (le_max_right _ _) ?_
    generalize -(max (-x) (-(-x))) = y
    induction y using EReal.rec with
    | bot => simp [log_one]
    | top =>
      rw [Ideal.exp_top, ← EReal.coe_one, EReal.coe_add_top, Ideal.log_top]
      exact le_top
    | coe r =>
      have h2 := Real.exp_pos r
      rw [Ideal.exp_coe, ← EReal.coe_one, ← EReal.coe_add, Ideal.log_coe, if_neg (by linarith)]
      exact_mod_cast Real.log_nonneg (by linarith)
  have h3 := mul_nonpos_of_nonpos_of_nonneg h (show (0 : EReal) ≤ ((1 / 16 : ℝ) : EReal) by exact_mod_cast (by norm_num : (0 : ℝ) ≤ 1 / 16))
  exact ne_of_lt (lt_of_le_of_lt h3 (by simp))

/-- A sum and the sum of the remainders that a rounding leaves: over the extended reals the remainders add nothing, where no term is `⊤`. -/
theorem sum_two_halves (p : Fin 64 → Prop) [DecidablePred p] (a : Fin 64 → EReal) (ha : ∀ s, a s ≠ ⊤) :
    (∑ s, if p s then a s else 0) + (∑ s, if p s then a s - a s else 0) = ∑ s, if p s then a s else 0 := by
  rw [← Finset.sum_add_distrib]
  refine Finset.sum_congr rfl fun s _ => ?_
  by_cases h : p s
  · rw [if_pos h, if_pos h]
    have := ha s
    generalize a s = y at this ⊢
    induction y using EReal.rec with
    | bot => simp
    | top => exact absurd rfl this
    | coe r => rw [← EReal.coe_sub, ← EReal.coe_add]; simp
  · rw [if_neg h, if_neg h, add_zero]

/-- The first 64 of 128 lanes. -/
abbrev lane (d : Fin 64) : Fin 128 := ⟨d.val, by omega⟩

/-- A sum over 128 lanes of which the last 64 add nothing. -/
theorem sum_lanes (f : Fin 128 → EReal) (h : ∀ x : Fin 128, 64 ≤ x.val → f x = 0) : ∑ x : Fin 128, f x = ∑ d : Fin 64, f (lane d) := by
  have := Fin.sum_univ_add (M := EReal) (a := 64) (b := 64) f
  rw [this]
  rw [Finset.sum_eq_zero (s := Finset.univ) (f := fun i : Fin 64 => f (Fin.natAdd 64 i)) (fun i _ => h _ (by simp [Fin.natAdd])), add_zero]
  rfl

theorem foldl_add {ι : Type} (g : ι → EReal) : ∀ (l : List ι) (v : EReal), l.foldl (fun r n => r + g n) v = v + (l.map g).sum
  | [], v => by simp
  | x :: l, v => by rw [List.foldl_cons, foldl_add g l, List.map_cons, List.sum_cons, add_assoc]

theorem sum_shift (f : Fin 64 → EReal) (t : Fin 64) :
    (∑ w : Fin 64, if h : 63 ≤ t.val + w.val then f ⟨t.val + w.val - 63, by omega⟩ else 0) = ∑ s : Fin 64, if s ≤ t then f s else 0 := by
  rw [← Finset.sum_filter]
  have : (∑ w : Fin 64, if h : 63 ≤ t.val + w.val then f ⟨t.val + w.val - 63, by omega⟩ else 0)
      = ∑ w : Fin 64, if 63 ≤ t.val + w.val then f ⟨(t.val + w.val - 63) % 64, by omega⟩ else 0 := by
    refine Finset.sum_congr rfl fun w _ => ?_
    by_cases h : 63 ≤ t.val + w.val
    · rw [dif_pos h, if_pos h]; congr 1; exact Fin.ext (Nat.mod_eq_of_lt (by omega)).symm
    · rw [dif_neg h, if_neg h]
  rw [this, ← Finset.sum_filter]
  refine Finset.sum_nbij' (fun w => ⟨(t.val + w.val - 63) % 64, by omega⟩) (fun s => ⟨(s.val + 63 - t.val) % 64, by omega⟩) ?_ ?_ ?_ ?_ ?_
  · intro w hw
    simp only [Finset.mem_filter, Finset.mem_univ, true_and] at hw ⊢
    rw [Fin.le_def]; show (t.val + w.val - 63) % 64 ≤ t.val; omega
  · intro s hs
    simp only [Finset.mem_filter, Finset.mem_univ, true_and, Fin.le_def] at hs ⊢
    omega
  · intro w hw
    simp only [Finset.mem_filter, Finset.mem_univ, true_and] at hw
    refine Fin.ext ?_
    show ((t.val + w.val - 63) % 64 + 63 - t.val) % 64 = w.val
    omega
  · intro s hs
    simp only [Finset.mem_filter, Finset.mem_univ, true_and, Fin.le_def] at hs
    refine Fin.ext ?_
    show (t.val + (s.val + 63 - t.val) % 64 - 63) % 64 = s.val
    omega
  · intro w _; rfl

end Cert.Gla

end
-- ==== Proof.CellVal.lean ====
/- What the terms of `Cell.lean` are over the extended reals: the recurrence of `Spec.lean`, on 128 lanes of which the last 64 hold zeros. -/
module

public import proofs.«01_k».proof.Proof.Cell
public import proofs.«01_k».proof.Proof.Spec

@[expose] public section

set_option maxRecDepth 16384

noncomputable section

open Idealize.ShloMosaic Idealize.ShloMosaic.TcCoe Idealize.SL.Sem

namespace Cert.KernelIdeal.Cell

open Cert.KernelIdeal Cert.KernelIdeal.Gen Cert.Gla

theorem tri_sle (t s : Fin 64) (x y : EReal) :
    Scalar.select (IntOp.cmpi .sle (BitVec.ofNat 32 s.val) (BitVec.ofNat 32 t.val)) x y = if s ≤ t then x else y := by
  have : ∀ t s : Fin 64, (IntOp.cmpi .sle (BitVec.ofNat 32 s.val) (BitVec.ofNat 32 t.val) : BitVec 1) = if s ≤ t then 1#1 else 0#1 := by decide
  rw [this]
  by_cases h : s ≤ t
  · rw [if_pos h, if_pos h]; rfl
  · rw [if_neg h, if_neg h]; rfl

/-- Row `t` of chunk `ci` of a 512-row block, and lane `d` of head `h` of 512 lanes. -/
abbrev rowB (ci : Fin 8) (t : Fin 64) : Fin 512 := ⟨64 * ci.val + t.val, by omega⟩
abbrev colB (h : Fin 4) (d : Fin 128) : Fin 512 := ⟨128 * h.val + d.val, by omega⟩

section Cum

variable (hi lo : FVec Ideal S512x512 .bf16) (ci : Fin 8) (h : Fin 4)

theorem cum_apply (t : Fin 64) (l : Fin 512) :
    cum hi lo ci (ix2 t l) = (∑ s : Fin 64, if s ≤ t then hi (ix2 (rowB ci s) l) else 0)
      + ∑ s : Fin 64, if s ≤ t then lo (ix2 (rowB ci s) l) else 0 := by
  unfold cum k0_pay4 k0_pay3
  pointwise
  simp only [tri_sle]

/-- The halves of a block of log decays, none of which is `⊤`, give the chunk's cumulative sums. -/
theorem cum_of (a : Fin 64 → Fin 64 → EReal) (d : Fin 64) (t : Fin 64)
    (hhi : ∀ s, hi (ix2 (rowB ci s) (colB h (lane d))) = a s d) (hlo : ∀ s, lo (ix2 (rowB ci s) (colB h (lane d))) = a s d - a s d)
    (ha : ∀ s, a s d ≠ ⊤) : cum hi lo ci (ix2 t (colB h (lane d))) = Gla.cum a t d := by
  rw [cum_apply]
  simp only [hhi, hlo]
  exact sum_two_halves (fun s => s ≤ t) (fun s => a s d) ha

end Cum

section Chunk

variable (cm : FVec Ideal S64x512 .f32) (h : Fin 4) (q k v : FVec Ideal S64x128 .bf16) (s : FVec Ideal S128x128 .f32)
  (Q K A : Fin 64 → Fin 64 → EReal) (V : Fin 64 → Fin 128 → EReal) (S : Fin 64 → Fin 128 → EReal)

theorem cumH_apply (t : Fin 64) (d : Fin 128) : cumH cm h (ix2 t d) = cm (ix2 t (colB h d)) := by
  unfold cumH
  pointwise

theorem lastH_apply (z : Fin 1) (d : Fin 128) : lastH cm h (ix2 z d) = cm (ix2 63 (colB h d)) := by
  unfold lastH
  pointwise

theorem qe_apply (t : Fin 64) (d : Fin 128) :
    qe cm h q (ix2 t d) = q (ix2 t d) * Ideal.ofBits .f32 0x3E000000#32 * Ideal.exp (cm (ix2 t (colB h d))) := by
  unfold qe
  pointwise
  rw [cumH_apply]

theorem ke_apply (t : Fin 64) (d : Fin 128) :
    ke cm h k (ix2 t d) = k (ix2 t d) * Ideal.exp (-cm (ix2 t (colB h d))) := by
  unfold ke
  pointwise
  rw [cumH_apply, zero_sub]

theorem kd_apply (t : Fin 64) (d : Fin 128) :
    kd cm h k (ix2 t d) = k (ix2 t d) * Ideal.exp (cm (ix2 63 (colB h d)) - cm (ix2 t (colB h d))) := by
  unfold kd
  pointwise
  rw [cumH_apply, lastH_apply]

/-- A tile whose last 64 lanes hold zeros. -/
structure Pad (x : FVec Ideal S64x128 .bf16) (X : Fin 64 → Fin 64 → EReal) : Prop where
  val : ∀ t d, x (ix2 t (lane d)) = X t d
  zero : ∀ t (d : Fin 128), 64 ≤ d.val → x (ix2 t d) = 0

variable {cm h q k v s Q K A V S}

/-- A state transposed on 128 lanes. -/
def StPad (s : FVec Ideal S128x128 .f32) (S : Fin 64 → Fin 128 → EReal) : Prop := ∀ e d, s (ix2 e d) = padT S e d

theorem StPad.val (hs : StPad s S) (e : Fin 128) (d : Fin 64) : s (ix2 e (lane d)) = S d e := by
  rw [hs]; unfold padT; rw [dif_pos d.isLt]
theorem StPad.zero (hs : StPad s S) (e d : Fin 128) (hd : 64 ≤ d.val) : s (ix2 e d) = 0 := by
  rw [hs]; unfold padT; rw [dif_neg (by omega)]

variable (hcm : ∀ t d, cm (ix2 t (colB h (lane d))) = Gla.cum A t d)

include hcm in
theorem att_of (hq : Pad q Q) (hk : Pad k K) (t u : Fin 64) :
    att cm h q k (ix2 t u) = if u ≤ t then ∑ d : Fin 64, Q t d * Ideal.ofBits .f32 0x3E000000#32 * Ideal.exp (Gla.cum A t d) * (K u d * Ideal.exp (-Gla.cum A u d)) else 0 := by
  unfold att k0_pay3
  pointwise
  rw [tri_sle]
  congr 1
  rw [sum_lanes _ (fun x hx => by rw [ke_apply, hk.zero _ _ hx, zero_mul, mul_zero])]
  refine Finset.sum_congr rfl fun d _ => ?_
  rw [qe_apply, ke_apply, hq.val, hk.val, hcm, hcm]

include hcm in
theorem upd_of (hk : Pad k K) (hv : ∀ t e, v (ix2 t e) = V t e) (hs : StPad s S) : StPad (upd cm h k v s) (stepS K A V S) := by
  intro e d
  unfold upd
  pointwise
  simp only [kd_apply]
  unfold padT
  by_cases hd : d.val < 64
  · rw [dif_pos hd]
    obtain ⟨d', rfl⟩ : ∃ d' : Fin 64, d = lane d' := ⟨⟨d.val, hd⟩, rfl⟩
    unfold stepS
    congr 1
    · rw [hs.val, lastH_apply, hcm, mul_comm]
    · refine Finset.sum_congr rfl fun t _ => ?_
      rw [hk.val, hcm, hcm, hv, mul_comm]
  · rw [dif_neg hd, hs.zero _ _ (by omega), zero_mul, zero_add]
    refine Finset.sum_eq_zero fun t _ => ?_
    rw [hk.zero _ _ (by omega), zero_mul, mul_zero]

include hcm in
theorem out_of (hq : Pad q Q) (hk : Pad k K) (hv : ∀ t e, v (ix2 t e) = V t e) (hs : StPad s S) (t : Fin 64) (e : Fin 128) :
    loc cm h q k v (ix2 t e) + car cm h q s (ix2 t e) = outO (fun t d => Q t d * Ideal.ofBits .f32 0x3E000000#32) K A V S t e := by
  unfold loc car outO
  pointwise
  congr 1
  · refine Finset.sum_congr rfl fun u _ => ?_
    rw [att_of hcm hq hk, hv]
  · rw [sum_lanes _ (fun x hx => by rw [hs.zero _ _ hx, mul_zero])]
    refine Finset.sum_congr rfl fun d _ => ?_
    rw [qe_apply, hq.val, hcm, hs.val]

end Chunk

theorem gate_of (a b : FVec Ideal S64x128 .f32) (g : FVec Ideal S1x1x128 .f32) (r : FVec Ideal S64x128 .bf16) (t : Fin 64) (e : Fin 128)
    (o : Fin 128 → EReal) (G R : EReal) (ho : ∀ e, b (ix2 t e) + a (ix2 t e) = o e) (hg : g (ix3 0 0 e) = G) (hr : r (ix2 t e) = R) :
    k0_pay518 a b g r (ix2 t e) = gate o G R e := by
  unfold k0_pay518
  pointwise
  unfold gate
  simp only [ho, hg, hr, zero_sub]

theorem decay_of (a : Vec Ideal S512x128 .f32) (b : Vec Ideal S1x128x512 .bf16) (g : Vec Ideal S1x1x512 .f32) (t : Fin 512) (l : Fin 512) :
    k0_pay6 a b g (ix2 t l) = ls (∑ x : Fin 128, a (ix2 t x) * b (ix3 0 x l) + g (ix3 0 0 l)) := by
  unfold k0_pay6 k0_pay5
  pointwise
  exact ls_eq _

theorem rest_of (a : Vec Ideal S512x128 .f32) (b : Vec Ideal S1x128x512 .bf16) (g : Vec Ideal S1x1x512 .f32) (t : Fin 512) (l : Fin 512) :
    k0_pay7 a b g (ix2 t l) = k0_pay6 a b g (ix2 t l) - k0_pay6 a b g (ix2 t l) := by
  unfold k0_pay7 k0_pay6
  pointwise

section Step

theorem ld_tile (x : Vec Ideal S512x512 .bf16) (ci : Fin 8) (h : Fin 4) (t : Fin 64) (e : Fin 128) :
    View.ld x (rTile ci h) (ix2 t e) = x (ix2 (rowB ci t) (colB h e)) := by
  pointwise

theorem ld_gn (x : Vec Ideal S1x1x512 .f32) (h : Fin 4) (z z' : Fin 1) (e : Fin 128) :
    View.ld x (rGn h) (ix3 z z' e) = x (ix3 0 0 (colB h e)) := by
  pointwise

theorem sIn_apply (x : Vec Ideal S4x128x128 .f32) (h : Fin 4) (e d : Fin 128) :
    k0_pay358 (View.ld x (rSt h)) (ix2 e d) = x (ix3 h e d) := by
  unfold k0_pay358
  pointwise

variable (x0 x1 x2 x3 : Vec Ideal S512x512 .bf16) (hi lo : FVec Ideal S512x512 .bf16) (x7 : Vec Ideal S1x1x512 .f32)
  (s0 : Fin 4 → FVec Ideal S128x128 .f32) (h : Fin 4) (p : ℕ)
  (Q K A : ℕ → Fin 64 → Fin 64 → EReal) (V R : ℕ → Fin 64 → Fin 128 → EReal) (G : Fin 128 → EReal)

/-- What the blocks of a grid step hold for head `h`: the queries, keys, log decays and values of the chunks `8p … 8p + 7`. -/
structure Blk : Prop where
  q : ∀ (ci : Fin 8) t d, x0 (ix2 (rowB ci t) (colB h (lane d))) = Q (8 * p + ci.val) t d
  q0 : ∀ (r : Fin 512) (d : Fin 128), 64 ≤ d.val → x0 (ix2 r (colB h d)) = 0
  k : ∀ (ci : Fin 8) t d, x1 (ix2 (rowB ci t) (colB h (lane d))) = K (8 * p + ci.val) t d
  k0 : ∀ (r : Fin 512) (d : Fin 128), 64 ≤ d.val → x1 (ix2 r (colB h d)) = 0
  v : ∀ (ci : Fin 8) t e, x2 (ix2 (rowB ci t) (colB h e)) = V (8 * p + ci.val) t e
  r : ∀ (ci : Fin 8) t e, x3 (ix2 (rowB ci t) (colB h e)) = R (8 * p + ci.val) t e
  a : ∀ (ci : Fin 8) t d, hi (ix2 (rowB ci t) (colB h (lane d))) = A (8 * p + ci.val) t d
  a2 : ∀ (ci : Fin 8) t d, lo (ix2 (rowB ci t) (colB h (lane d))) = A (8 * p + ci.val) t d - A (8 * p + ci.val) t d
  top : ∀ n t d, A n t d ≠ ⊤
  g : ∀ e, x7 (ix3 0 0 (colB h e)) = G e

variable {x0 x1 x2 x3 hi lo x7 s0 h p Q K A V R G}
variable (B : Blk x0 x1 x2 x3 hi lo x7 h p Q K A V R G)

include B
theorem Blk.cum (ci : Fin 8) (t d : Fin 64) : cum hi lo ci (ix2 t (colB h (lane d))) = Gla.cum (A (8 * p + ci.val)) t d :=
  cum_of hi lo ci h _ d t (fun s => B.a ci s d) (fun s => B.a2 ci s d) fun s => B.top _ s d
theorem Blk.padQ (ci : Fin 8) : Pad (View.ld x0 (rTile ci h)) (Q (8 * p + ci.val)) :=
  ⟨fun t d => (ld_tile x0 ci h t _).trans (B.q ci t d), fun t d hd => (ld_tile x0 ci h t _).trans (B.q0 _ d hd)⟩
theorem Blk.padK (ci : Fin 8) : Pad (View.ld x1 (rTile ci h)) (K (8 * p + ci.val)) :=
  ⟨fun t d => (ld_tile x1 ci h t _).trans (B.k ci t d), fun t d hd => (ld_tile x1 ci h t _).trans (B.k0 _ d hd)⟩
theorem Blk.vals (ci : Fin 8) (t : Fin 64) (e : Fin 128) : View.ld x2 (rTile ci h) (ix2 t e) = V (8 * p + ci.val) t e :=
  (ld_tile x2 ci h t e).trans (B.v ci t e)

theorem Blk.stAt (hs : StPad (s0 h) (state K A V (8 * p))) : ∀ (n : ℕ) (hn : n ≤ 8),
    StPad (stAt x1 x2 hi lo s0 h n hn) (state K A V (8 * p + n))
  | 0, _ => hs
  | n + 1, hn => upd_of (B.cum ⟨n, hn⟩) (B.padK ⟨n, hn⟩) (B.vals ⟨n, hn⟩) (Blk.stAt hs n (Nat.le_of_succ_le hn))

theorem Blk.tile (hs : StPad (s0 h) (state K A V (8 * p))) (ci : Fin 8) (t : Fin 64) (e : Fin 128) :
    tile x0 x1 x2 x3 hi lo x7 s0 ci h (ix2 t e)
      = gate (outO (fun t d => Q (8 * p + ci.val) t d * Ideal.ofBits .f32 0x3E000000#32) (K (8 * p + ci.val)) (A (8 * p + ci.val))
          (V (8 * p + ci.val)) (state K A V (8 * p + ci.val)) t) (G e) (R (8 * p + ci.val) t e) e :=
  gate_of _ _ _ _ t e _ _ _ (out_of (B.cum ci) (B.padQ ci) (B.padK ci) (B.vals ci) (B.stAt hs ci.val _) t)
    ((ld_gn x7 h 0 0 e).trans (B.g e)) ((ld_tile x3 ci h t e).trans (B.r ci t e))

end Step

end Cert.KernelIdeal.Cell

end
-- ==== Proof.Arrays.lean ====
/- The arrays the kernel's windows stage, and their blocks at a grid point, over the program's arguments. -/
module

public import proofs.«01_k».proof.Proof.CellVal
public import Idealize.ShloMosaic.Lib.StableHlo.ReadAt

@[expose] public section

set_option maxRecDepth 16384

noncomputable section

open Idealize.ShloMosaic Idealize.ShloMosaic.TcCoe Idealize.SL.Sem

namespace Cert.KernelIdeal.Cell

open Cert.KernelIdeal Cert.KernelIdeal.Gen Cert.Gla
variable (m : (ℓ : Loc nD τ sig) → Buf (Elt Ideal) ℓ) (c : Dev nD)

/-- The arguments. -/
abbrev a0 : Vec Ideal S16384x256 .f32 := m ((c : Thread nD τ).loc main_arg0)
abbrev a1 : Vec Ideal S16384x256 .f32 := m ((c : Thread nD τ).loc main_arg1)
abbrev a2 : Vec Ideal S16384x512 .f32 := m ((c : Thread nD τ).loc main_arg2)
abbrev a3 : Vec Ideal S16384x512 .f32 := m ((c : Thread nD τ).loc main_arg3)
abbrev a4 : Vec Ideal S16384x16 .f32 := m ((c : Thread nD τ).loc main_arg4)
abbrev a5 : Vec Ideal S4x16x256 .f32 := m ((c : Thread nD τ).loc main_arg5)
abbrev a6 : Vec Ideal S4x256 .f32 := m ((c : Thread nD τ).loc main_arg6)
abbrev a7 : Vec Ideal S4x4x128 .f32 := m ((c : Thread nD τ).loc main_arg7)

theorem sitofp_zero : (FloatOps.sitofp FTy.f32 (0#32 : BitVec 32) : Ideal .f32) = (0 : EReal) := by
  show (((0#32 : BitVec 32).toInt : ℝ) : EReal) = 0
  simp

theorem v9_q (R : Fin 16384) (h : Fin 4) (d : Fin 128) (L : Fin 4096) (hL : L.val = 1024 + (128 * h.val + d.val)) :
    (V m c main_v9 : Vec Ideal S16384x4096 .bf16) (ix2 R L) = if hd : d.val < 64 then a0 m c (ix2 R (col h ⟨d.val, hd⟩)) else (0 : EReal) := by
  obtain ⟨L, hlt⟩ := L
  dsimp only at hL
  subst hL
  unfold V
  after_reads_at
  rw [dif_pos (by omega)]
  after_reads_at
  rw [sitofp_zero]
  by_cases hd : d.val < 64
  · rw [dif_pos hd, dif_pos hd]; exact congrArg (fun x => a0 m c (ix2 R x)) (Fin.ext (by dsimp only; omega))
  · rw [dif_neg hd, dif_neg hd]

theorem v9_k (R : Fin 16384) (h : Fin 4) (d : Fin 128) (L : Fin 4096) (hL : L.val = 1536 + (128 * h.val + d.val)) :
    (V m c main_v9 : Vec Ideal S16384x4096 .bf16) (ix2 R L) = if hd : d.val < 64 then a1 m c (ix2 R (col h ⟨d.val, hd⟩)) else (0 : EReal) := by
  obtain ⟨L, hlt⟩ := L
  dsimp only at hL
  subst hL
  unfold V
  after_reads_at
  repeat rw [dif_neg (by omega)]
  rw [dif_pos (by omega)]
  have e : 1536 + (128 * h.val + d.val) - 1024 - 512 = 128 * h.val + d.val := by omega
  simp only [e]
  after_reads_at
  rw [sitofp_zero]
  by_cases hd : d.val < 64
  · rw [dif_pos hd, dif_pos hd]; exact congrArg (fun x => a1 m c (ix2 R x)) (Fin.ext (by dsimp only; omega))
  · rw [dif_neg hd, dif_neg hd]

theorem v9_v (R : Fin 16384) (l : Fin 512) (L : Fin 4096) (hL : L.val = 2048 + l.val) :
    (V m c main_v9 : Vec Ideal S16384x4096 .bf16) (ix2 R L) = a2 m c (ix2 R l) := by
  obtain ⟨L, hlt⟩ := L
  dsimp only at hL
  subst hL
  unfold V
  after_reads_at
  repeat rw [dif_neg (by omega)]
  rw [dif_pos (by omega)]
  after_reads_at
  exact congrArg (fun x => a2 m c (ix2 R x)) (Fin.ext (by dsimp only; omega))

theorem v9_r (R : Fin 16384) (l : Fin 512) (L : Fin 4096) (hL : L.val = 2560 + l.val) :
    (V m c main_v9 : Vec Ideal S16384x4096 .bf16) (ix2 R L) = a3 m c (ix2 R l) := by
  obtain ⟨L, hlt⟩ := L
  dsimp only at hL
  subst hL
  unfold V
  after_reads_at
  repeat rw [dif_neg (by omega)]
  rw [dif_pos (by omega)]
  after_reads_at
  exact congrArg (fun x => a3 m c (ix2 R x)) (Fin.ext (by dsimp only; omega))

theorem v10_apply (R : Fin 16384) (l : Fin 128) :
    (V m c main_v10 : Vec Ideal S16384x128 .f32) (ix2 R l) = if hl : l.val < 16 then a4 m c (ix2 R ⟨l.val, hl⟩) else (0 : EReal) := by
  unfold V
  after_reads_at
  rw [sitofp_zero]

theorem v16_apply (z : Fin 4) (x : Fin 128) (h : Fin 4) (d : Fin 64) (hx : x.val < 16) :
    (V m c main_v16 : Vec Ideal S4x128x512 .bf16) (ix3 z x (colB h (lane d))) = a5 m c (ix3 z ⟨x.val, hx⟩ (col h d)) := by
  unfold V
  after_reads_at
  rw [dif_pos (by omega)]
  exact congrArg (fun y => a5 m c (ix3 z ⟨x.val, hx⟩ y)) (Fin.ext (by dsimp only; omega))

theorem v17_apply (z : Fin 4) (x : Fin 1) (h : Fin 4) (d : Fin 64) :
    (V m c main_v17 : Vec Ideal S4x1x512 .f32) (ix3 z x (colB h (lane d))) = a6 m c (ix2 z (col h d)) := by
  unfold V
  after_reads_at
  rw [dif_pos (by omega)]
  exact congrArg (fun y => a6 m c (ix2 z y)) (Fin.ext (by dsimp only; omega))

theorem v18_apply (z : Fin 2) (h : Fin 4) (e d : Fin 128) :
    (V m c main_v18 : Vec Ideal S2x4x128x128 .f32) (ix4 z h e d) = (0 : EReal) := by
  unfold V
  after_reads_at

theorem v19_apply (z : Fin 4) (x : Fin 1) (h : Fin 4) (d : Fin 128) :
    (V m c main_v19 : Vec Ideal S4x1x512 .f32) (ix3 z x (colB h d)) = a7 m c (ix3 z h d) := by
  unfold V
  after_reads_at
  exact congrArg₂ (fun x y => a7 m c (ix3 z x y)) (Fin.ext (by dsimp only; omega)) (Fin.ext (by dsimp only; omega))

theorem idx0 : ∀ t : Fin cfg0.N, win0_0.index t (0 : Fin 2) = t.val ∧ win0_0.index t (1 : Fin 2) = 2 := by decide
theorem idx1 : ∀ t : Fin cfg0.N, win0_1.index t (0 : Fin 2) = t.val ∧ win0_1.index t (1 : Fin 2) = 3 := by decide
theorem idx2 : ∀ t : Fin cfg0.N, win0_2.index t (0 : Fin 2) = t.val ∧ win0_2.index t (1 : Fin 2) = 4 := by decide
theorem idx3 : ∀ t : Fin cfg0.N, win0_3.index t (0 : Fin 2) = t.val ∧ win0_3.index t (1 : Fin 2) = 5 := by decide
theorem idx4 : ∀ t : Fin cfg0.N, win0_4.index t (0 : Fin 2) = t.val ∧ win0_4.index t (1 : Fin 2) = 0 := by decide
theorem idx5 : ∀ t : Fin cfg0.N, win0_5.index t (0 : Fin 3) = 0 ∧ win0_5.index t (1 : Fin 3) = 0 ∧ win0_5.index t (2 : Fin 3) = 0 := by decide
theorem idx6 : ∀ t : Fin cfg0.N, win0_6.index t (0 : Fin 3) = 0 ∧ win0_6.index t (1 : Fin 3) = 0 ∧ win0_6.index t (2 : Fin 3) = 0 := by decide
theorem idx7 : ∀ t : Fin cfg0.N, win0_7.index t (0 : Fin 3) = 0 ∧ win0_7.index t (1 : Fin 3) = 0 ∧ win0_7.index t (2 : Fin 3) = 0 := by decide
theorem idx8 : ∀ t : Fin cfg0.N, win0_8.index t (0 : Fin 4) = t.val / 16 ∧ win0_8.index t (1 : Fin 4) = 0 ∧ win0_8.index t (2 : Fin 4) = 0
    ∧ win0_8.index t (3 : Fin 4) = 0 := by decide

variable (t : Fin cfg0.N)

theorem lt32 : t.val < 32 := lt_of_lt_of_eq t.isLt N_0
abbrev rowT (r : Fin 512) : Fin 16384 := ⟨512 * t.val + r.val, by have := lt32 t; omega⟩

theorem ib0 (r l : Fin 512) : (iblk m c 0 t : Vec Ideal S512x512 .bf16) (ix2 r l) = (V m c main_v9 : Vec Ideal S16384x4096 .bf16) (ix2 (rowT t r) ⟨1024 + l.val, by omega⟩) := by
  have := lt32 t
  unfold iblk
  blk_ext [idx0 t]
theorem ib1 (r l : Fin 512) : (iblk m c 1 t : Vec Ideal S512x512 .bf16) (ix2 r l) = (V m c main_v9 : Vec Ideal S16384x4096 .bf16) (ix2 (rowT t r) ⟨1536 + l.val, by omega⟩) := by
  have := lt32 t
  unfold iblk
  blk_ext [idx1 t]
theorem ib2 (r l : Fin 512) : (iblk m c 2 t : Vec Ideal S512x512 .bf16) (ix2 r l) = (V m c main_v9 : Vec Ideal S16384x4096 .bf16) (ix2 (rowT t r) ⟨2048 + l.val, by omega⟩) := by
  have := lt32 t
  unfold iblk
  blk_ext [idx2 t]
theorem ib3 (r l : Fin 512) : (iblk m c 3 t : Vec Ideal S512x512 .bf16) (ix2 r l) = (V m c main_v9 : Vec Ideal S16384x4096 .bf16) (ix2 (rowT t r) ⟨2560 + l.val, by omega⟩) := by
  have := lt32 t
  unfold iblk
  blk_ext [idx3 t]
theorem ib4 (r : Fin 512) (x : Fin 128) : (iblk m c 4 t : Vec Ideal S512x128 .f32) (ix2 r x) = (V m c main_v10 : Vec Ideal S16384x128 .f32) (ix2 (rowT t r) x) := by
  have := lt32 t
  unfold iblk
  blk_ext [idx4 t]
theorem ib5 (z : Fin 1) (x : Fin 128) (l : Fin 512) : (iblk m c 5 t : Vec Ideal S1x128x512 .bf16) (ix3 z x l) = (V m c main_v16 : Vec Ideal S4x128x512 .bf16) (ix3 0 x l) := by
  unfold iblk
  blk_ext [idx5 t]
theorem ib6 (z z' : Fin 1) (l : Fin 512) : (iblk m c 6 t : Vec Ideal S1x1x512 .f32) (ix3 z z' l) = (V m c main_v17 : Vec Ideal S4x1x512 .f32) (ix3 0 0 l) := by
  unfold iblk
  blk_ext [idx6 t]
theorem ib7 (z z' : Fin 1) (l : Fin 512) : (iblk m c 7 t : Vec Ideal S1x1x512 .f32) (ix3 z z' l) = (V m c main_v19 : Vec Ideal S4x1x512 .f32) (ix3 0 0 l) := by
  unfold iblk
  blk_ext [idx7 t]
theorem ib8 (z : Fin 1) (h : Fin 4) (e d : Fin 128) : (iblk m c 8 t : Vec Ideal S1x4x128x128 .f32) (ix4 z h e d)
    = (V m c main_v18 : Vec Ideal S2x4x128x128 .f32) (ix4 ⟨t.val / 16, by have := lt32 t; omega⟩ h e d) := by
  have := lt32 t
  unfold iblk
  blk_ext [idx8 t]

end Cert.KernelIdeal.Cell

end
-- ==== Proof.Open.lean ====
/- Each of the 32 printed tiles of a grid step is the one tile term of `Cell.lean`. -/
module

public import proofs.«01_k».proof.Proof.Cell
public import Idealize.ShloMosaic.Lib.Pipeline.CanonAppend
public import Idealize.ShloMosaic.Lib.Pipeline.ReadBack

@[expose] public section

set_option maxRecDepth 16384

noncomputable section

open Idealize.ShloMosaic Idealize.ShloMosaic.TcCoe Idealize.SL.Sem

namespace Cert.KernelIdeal.Cell

open Cert.KernelIdeal Cert.KernelIdeal.Gen

variable {F : FTy → Type} [FloatOps F]
variable (m : (ℓ : Loc nD τ sig) → Buf (Elt F) ℓ) (c : Dev nD)

/-- The tile and the states at grid point `t` over the scratch `s` it starts from. -/
abbrev hiAt (t : Fin cfg0.N) : FVec F S512x512 .bf16 := k0_pay6 (iblk m c 4 t) (iblk m c 5 t) (iblk m c 6 t)
abbrev loAt (t : Fin cfg0.N) : FVec F S512x512 .bf16 := k0_pay7 (iblk m c 4 t) (iblk m c 5 t) (iblk m c 6 t)
abbrev sIn (s : Vec F S4x128x128 .f32) (h : Fin 4) : FVec F S128x128 .f32 := k0_pay358 (View.ld s (rSt h))
abbrev tileAt (t : Fin cfg0.N) (s : Fin 4 → FVec F S128x128 .f32) (ci : Fin 8) (h : Fin 4) : FVec F S64x128 .bf16 :=
  tile (iblk m c 0 t) (iblk m c 1 t) (iblk m c 2 t) (iblk m c 3 t) (hiAt m c t) (loAt m c t) (iblk m c 7 t) s ci h

/-- The scratch before point `t`. -/
abbrev scr (t : Fin cfg0.N) : Vec F S4x128x128 .f32 := (outsAt0 m c (t.val - 1) (Nat.lt_of_le_of_lt (Nat.sub_le _ _) t.isLt)).2.2

/-- The 32 tiles stored in a grid step, the last store first. -/
def tiles (T : Fin 8 → Fin 4 → FVec F S64x128 .bf16) : List (View.Piece (Elt F) S512x512 .bf16) :=
  [7, 6, 5, 4, 3, 2, 1, 0].flatMap fun ci => [3, 2, 1, 0].map fun h => ⟨rTile ci h, T ci h⟩

/-- The four states stored, the last first. -/
def slabs (T : Fin 4 → FVec F S128x128 .f32) : List (View.Piece (Elt F) S4x128x128 .f32) :=
  [3, 2, 1, 0].map fun h => ⟨rSt h, k0_pay529 (T h)⟩

theorem rTile_val (ci : Fin 8) (h : Fin 4) (x : S64x128.Idx) (a : Fin S512x512.rank) :
    ((rTile ci h).emb x a : ℕ) = (![64 * ci.val, 128 * h.val] : Fin 2 → ℕ) a + x a :=
  Rect.idx_unit_val (s := S512x512) ![64 * ci.val, 128 * h.val] S64x128.size (in_tile ci h) x a

theorem rSt_val (h : Fin 4) (x : S1x128x128.Idx) (a : Fin S4x128x128.rank) :
    ((rSt h).emb x a : ℕ) = (![h.val, 0, 0] : Fin 3 → ℕ) a + x a :=
  Rect.idx_unit_val (s := S4x128x128) ![h.val, 0, 0] S1x128x128.size (in_st h) x a

theorem mem8 : ∀ ci : Fin 8, ci ∈ ([7, 6, 5, 4, 3, 2, 1, 0] : List (Fin 8)) := by decide
theorem mem4 : ∀ h : Fin 4, h ∈ ([3, 2, 1, 0] : List (Fin 4)) := by decide

theorem canon_tiles32 (T : Fin 8 → Fin 4 → FVec F S64x128 .bf16) (y : S512x512.Idx) (ci : Fin 8) (h : Fin 4) (r : Fin 64) (e : Fin 128)
    (h0 : (y 0 : ℕ) = 64 * ci.val + r.val) (h1 : (y 1 : ℕ) = 128 * h.val + e.val) :
    View.canon (tiles T) y = T ci h (ix2 r e) := by
  have hy : (rTile ci h).emb (ix2 r e) = y := funext fun a => by
    match a with
    | ⟨0, _⟩ => exact Fin.ext ((rTile_val ci h (ix2 r e) 0).trans h0.symm)
    | ⟨1, _⟩ => exact Fin.ext ((rTile_val ci h (ix2 r e) 1).trans h1.symm)
  refine View.canon_eq_of_allAt _ _ _ ⟨⟨rTile ci h, T ci h⟩, ?_, by rw [← hy]; exact LoadRect.idx_mem _ _⟩ ?_
  · exact List.mem_flatMap.2 ⟨ci, mem8 ci, List.mem_map.2 ⟨h, mem4 h, rfl⟩⟩
  · intro p hp x hx
    obtain ⟨ci', -, hp⟩ := List.mem_flatMap.1 hp
    obtain ⟨h', -, rfl⟩ := List.mem_map.1 hp
    have e0 : (64 * ci'.val + (x 0 : ℕ)) = 64 * ci.val + r.val := by
      rw [← h0, ← hx]; exact (rTile_val ci' h' x 0).symm
    have e1 : (128 * h'.val + (x 1 : ℕ)) = 128 * h.val + e.val := by
      rw [← h1, ← hx]; exact (rTile_val ci' h' x 1).symm
    have b0 : (x 0 : ℕ) < 64 := (x 0).isLt
    have b1 : (x 1 : ℕ) < 128 := (x 1).isLt
    have := r.isLt; have := e.isLt
    obtain rfl : ci' = ci := Fin.ext (by omega)
    obtain rfl : h' = h := Fin.ext (by omega)
    refine congrArg (T ci' h') (funext fun a => ?_)
    match a with
    | ⟨0, _⟩ => exact Fin.ext (by show (x 0 : ℕ) = r; omega)
    | ⟨1, _⟩ => exact Fin.ext (by show (x 1 : ℕ) = e; omega)

theorem canon_slabs (T : Fin 4 → FVec F S128x128 .f32) (L : List (View.Piece (Elt F) S4x128x128 .f32)) (h : Fin 4) (e d : Fin 128) :
    View.canon (slabs T ++ L) (ix3 h e d) = T h (ix2 e d) := by
  have hy : (rSt h).emb (ix3 0 e d) = (ix3 h e d : S4x128x128.Idx) := funext fun a => by
    match a with
    | ⟨0, _⟩ => exact Fin.ext (rSt_val h (ix3 0 e d) 0)
    | ⟨1, _⟩ => exact Fin.ext ((rSt_val h (ix3 0 e d) 1).trans (Nat.zero_add _))
    | ⟨2, _⟩ => exact Fin.ext ((rSt_val h (ix3 0 e d) 2).trans (Nat.zero_add _))
  refine (View.canon_append_of_pieces (fun y : S4x128x128.Idx => T (y 0) (ix2 (y 1) (y 2))) L (slabs T) ?_ (ix3 h e d)
      ⟨⟨rSt h, k0_pay529 (T h)⟩, List.mem_map.2 ⟨h, mem4 h, rfl⟩, by rw [← hy]; exact LoadRect.idx_mem _ _⟩).trans rfl
  intro p hp x
  obtain ⟨h', -, rfl⟩ := List.mem_map.1 hp
  have b0 : (x 0 : ℕ) < 1 := (x 0).isLt
  have e0 : (rSt h').emb x 0 = h' := Fin.ext ((rSt_val h' x 0).trans (by show h'.val + (x 0 : ℕ) = _; omega))
  have e1 : (rSt h').emb x 1 = x 1 := Fin.ext ((rSt_val h' x 1).trans (Nat.zero_add _))
  have e2 : (rSt h').emb x 2 = x 2 := Fin.ext ((rSt_val h' x 2).trans (Nat.zero_add _))
  show k0_pay529 (T h') x = T ((rSt h').emb x 0) (ix2 ((rSt h').emb x 1) ((rSt h').emb x 2))
  rw [e0, e1, e2]
  unfold k0_pay529
  pointwise

/-- The states a first grid step of a sequence starts from: the block of the initial states, written into the scratch
    and read back. -/
abbrev s8 (t : Fin cfg0.N) : Vec F S4x128x128 .f32 := k0_pay2 (iblk m c 8 t)
abbrev s8Cov (t : Fin cfg0.N) (h : Fin 4) : FVec F S128x128 .f32 :=
  k0_pay358 ((View.whole cc0_scratch0).readCov
    [⟨Rect.unit ![0, 0, 0] S4x128x128.size inb_S4x128x128_S4x128x128_0_0_0, k0_pay2 (iblk m c 8 t)⟩] (rSt h).toLoadRect)
abbrev stateAt (t : Fin cfg0.N) (s : Fin 4 → FVec F S128x128 .f32) (h : Fin 4) : FVec F S128x128 .f32 :=
  stAt (iblk m c 1 t) (iblk m c 2 t) (hiAt m c t) (loAt m c t) s h 8 (le_refl _)

theorem s8Cov_eq (t : Fin cfg0.N) : s8Cov m c t = sIn (s8 m c t) := funext fun h => by
  exact congrArg k0_pay358 (View.readCov_fill (View.whole cc0_scratch0) _ _ [] (rSt h) (by decide))

theorem unread_scr (s : Vec F S4x128x128 .f32) :
    View.read (Elt F) (View.whole cc0_scratch0) ((Memref.isWhole_whole cc0_scratch0).unread s) = s :=
  (Memref.isWhole_whole cc0_scratch0).read_unread _

theorem out_A (t : Fin cfg0.N) (h0 : t.val % 16 = 0) :
    (outsAt0 m c t.val t.isLt).1 = View.canon (tiles (tileAt m c t (sIn (s8 m c t)))) := by
  rw [outsAt0_A m c t h0 (by omega), ← s8Cov_eq]
  funext y
  frame_out
  rfl

theorem out_B (t : Fin cfg0.N) (h0 : ¬t.val % 16 = 0) (h1 : ¬t.val % 16 = 15) :
    (outsAt0 m c t.val t.isLt).1 = View.canon (tiles (tileAt m c t (sIn (scr m c t)))) := by
  rw [outsAt0_B m c t h0 h1]
  funext y
  frame_out
  rw [unread_scr]
  rfl

theorem out_C (t : Fin cfg0.N) (h0 : ¬t.val % 16 = 0) (h1 : t.val % 16 = 15) :
    (outsAt0 m c t.val t.isLt).1 = View.canon (tiles (tileAt m c t (sIn (scr m c t)))) := by
  rw [outsAt0_C m c t h0 h1]
  funext y
  frame_out
  rw [unread_scr]
  rfl

theorem scr_A (t : Fin cfg0.N) (h0 : t.val % 16 = 0) :
    (outsAt0 m c t.val t.isLt).2.2 = View.canon (slabs (stateAt m c t (sIn (s8 m c t)))
      ++ [⟨Rect.unit ![0, 0, 0] S4x128x128.size inb_S4x128x128_S4x128x128_0_0_0, k0_pay2 (iblk m c 8 t)⟩]) := by
  rw [outsAt0_A m c t h0 (by omega), ← s8Cov_eq]
  funext y
  frame_out
  rfl

theorem scr_B (t : Fin cfg0.N) (h0 : ¬t.val % 16 = 0) (h1 : ¬t.val % 16 = 15) :
    (outsAt0 m c t.val t.isLt).2.2 = View.canon (slabs (stateAt m c t (sIn (scr m c t))) ++ []) := by
  rw [outsAt0_B m c t h0 h1]
  funext y
  frame_out
  rw [unread_scr]
  rfl

theorem scr_C (t : Fin cfg0.N) (h0 : ¬t.val % 16 = 0) (h1 : t.val % 16 = 15) :
    (outsAt0 m c t.val t.isLt).2.2 = View.canon (slabs (stateAt m c t (sIn (scr m c t))) ++ []) := by
  rw [outsAt0_C m c t h0 h1]
  funext y
  frame_out
  rw [unread_scr]
  rfl

theorem st_C (t : Fin cfg0.N) (h0 : ¬t.val % 16 = 0) (h1 : t.val % 16 = 15) (z : Fin 1) (h : Fin 4) (e d : Fin 128) :
    (outsAt0 m c t.val t.isLt).2.1 (ix4 z h e d) = (outsAt0 m c t.val t.isLt).2.2 (ix3 h e d) := by
  rw [scr_C m c t h0 h1, outsAt0_C m c t h0 h1]
  frame_out
  rw [unread_scr]
  rw [View.readCov_eq_canon']
  unfold k0_pay1
  pointwise
  show View.canon (slabs (stateAt m c t (sIn (scr m c t))) ++ []) _ = _
  congr 1

end Cert.KernelIdeal.Cell

end
-- ==== Proof.KerVal.lean ====
/- What the kernel's grid leaves: the recurrence of `Spec.lean`, chunk by chunk, and its last states. -/
module

public import proofs.«01_k».proof.Proof.Arrays
public import proofs.«01_k».proof.Proof.Open
public import proofs.«01_k».proof.Proof.Gen.KernelIdeal.Value

@[expose] public section

set_option maxRecDepth 16384

noncomputable section

open Idealize.ShloMosaic Idealize.ShloMosaic.TcCoe Idealize.SL.Sem

namespace Cert.KernelIdeal.Cell

open Cert.KernelIdeal Cert.KernelIdeal.Gen Cert.Gla
variable (m : (ℓ : Loc nD τ sig) → Buf (Elt Ideal) ℓ) (c : Dev nD)

theorem sum_first16 (f : Fin 128 → EReal) (h : ∀ x : Fin 128, 16 ≤ x.val → f x = 0) : ∑ x : Fin 128, f x = ∑ d : Fin 16, f ⟨d.val, by omega⟩ := by
  have := Fin.sum_univ_add (M := EReal) (a := 16) (b := 112) f
  rw [this]
  rw [Finset.sum_eq_zero (s := Finset.univ) (f := fun i : Fin 112 => f (Fin.natAdd 16 i)) (fun i _ => h _ (by simp [Fin.natAdd])), add_zero]
  rfl

/-- The queries before their scale, the gates and the gains of head `h` of sequence `b`. -/
def qU (b : Fin 2) (h : Fin 4) (n : ℕ) (u d : Fin 64) : EReal := a0 m c (ix2 (row b n u) (col h d))
def rO (b : Fin 2) (h : Fin 4) (n : ℕ) (u : Fin 64) (e : Fin 128) : EReal := a3 m c (ix2 (row b n u) (colV h e))
def gO (h : Fin 4) (e : Fin 128) : EReal := a7 m c (ix3 0 h e)
abbrev kO (b : Fin 2) (h : Fin 4) := kOf (a1 m c) b h
abbrev vO (b : Fin 2) (h : Fin 4) := vOf (a2 m c) b h
abbrev aO (b : Fin 2) (h : Fin 4) := aOf (a4 m c) (a5 m c) (a6 m c) b h
abbrev stO (b : Fin 2) (h : Fin 4) := stateOf (a1 m c) (a2 m c) (a4 m c) (a5 m c) (a6 m c) b h

variable (t : Fin cfg0.N)

theorem hi_apply (r : Fin 512) (h : Fin 4) (d : Fin 64) :
    hiAt m c t (ix2 r (colB h (lane d)))
      = ls (∑ x : Fin 16, a4 m c (ix2 (rowT t r) x) * a5 m c (ix3 0 x (col h d)) + a6 m c (ix2 0 (col h d))) := by
  refine (decay_of _ _ _ r _).trans (congrArg ls ?_)
  congr 1
  · rw [sum_first16 _ (fun x hx => by rw [ib4, v10_apply, dif_neg (by omega), zero_mul])]
    refine Finset.sum_congr rfl fun x _ => ?_
    rw [ib4, v10_apply, dif_pos x.isLt, ib5, v16_apply m c 0 _ h d x.isLt]
  · rw [ib6, v17_apply]

variable (b : Fin 2) (p : Fin 16) (ht : t.val = 16 * b.val + p.val)

include ht in
theorem row_eq (ci : Fin 8) (u : Fin 64) : rowT t (rowB ci u) = row b (8 * p.val + ci.val) u := by
  unfold row
  refine Fin.ext ?_
  show 512 * t.val + (64 * ci.val + u.val) = _
  dsimp only
  omega

include ht in
theorem blk (h : Fin 4) : Blk (iblk m c 0 t) (iblk m c 1 t) (iblk m c 2 t) (iblk m c 3 t) (hiAt m c t) (loAt m c t) (iblk m c 7 t) h p.val
    (qU m c b h) (kO m c b h) (aO m c b h) (vO m c b h) (rO m c b h) (gO m c h) where
  q ci u d := by rw [ib0, v9_q m c _ h (lane d) _ rfl, dif_pos d.isLt, row_eq t b p ht]; rfl
  q0 r d hd := by rw [ib0, v9_q m c _ h d _ rfl, dif_neg (by omega)]
  k ci u d := by rw [ib1, v9_k m c _ h (lane d) _ rfl, dif_pos d.isLt, row_eq t b p ht]; rfl
  k0 r d hd := by rw [ib1, v9_k m c _ h d _ rfl, dif_neg (by omega)]
  v ci u e := by rw [ib2, v9_v m c _ _ _ rfl, row_eq t b p ht]; rfl
  r ci u e := by rw [ib3, v9_r m c _ _ _ rfl, row_eq t b p ht]; rfl
  a ci u d := by rw [hi_apply, row_eq t b p ht]; rfl
  a2 ci u d := by
    refine (rest_of _ _ _ _ _).trans ?_
    show hiAt m c t _ - hiAt m c t _ = _
    rw [hi_apply, row_eq t b p ht]; rfl
  top n u d := ls_ne_top _
  g e := by rw [ib7, v19_apply]; rfl

theorem s8_apply (h : Fin 4) (e d : Fin 128) : s8 m c t (ix3 h e d) = (0 : EReal) := by
  have : s8 m c t (ix3 h e d) = (iblk m c 8 t : Vec Ideal S1x4x128x128 .f32) (ix4 0 h e d) := by
    unfold s8 k0_pay2
    pointwise
  rw [this, ib8, v18_apply]

/-- The scratch after point `t` of a sequence holds its states after the chunks of that point. -/
def Scr (s : Vec Ideal S4x128x128 .f32) (b : Fin 2) (n : ℕ) : Prop := ∀ h e d, s (ix3 h e d) = padT (stO m c b h n) e d

theorem Scr.pad {s : Vec Ideal S4x128x128 .f32} {b : Fin 2} {n : ℕ} (hs : Scr m c s b n) (h : Fin 4) : StPad (sIn s h) (stO m c b h n) :=
  fun e d => (sIn_apply s h e d).trans (hs h e d)

theorem scr_zero : Scr m c (s8 m c t) b 0 := fun h e d => by
  rw [s8_apply]
  unfold padT
  split <;> rfl

include ht in
theorem scr_step {s : Vec Ideal S4x128x128 .f32} (hs : Scr m c s b (8 * p.val)) (L : List (View.Piece (Elt Ideal) S4x128x128 .f32)) :
    Scr m c (View.canon (slabs (stateAt m c t (sIn s)) ++ L)) b (8 * p.val + 8) := fun h e d =>
  (canon_slabs _ L h e d).trans ((blk m c t b p ht h).stAt (hs.pad m c h) 8 (le_refl _) e d)

theorem scr_all : ∀ (n : ℕ) (hn : n < cfg0.N) (b : Fin 2) (p : Fin 16), n = 16 * b.val + p.val →
    Scr m c (outsAt0 m c n hn).2.2 b (8 * p.val + 8) := by
  intro n
  induction n with
  | zero =>
    intro hn b p hp
    have e := scr_A m c ⟨0, hn⟩ rfl
    have h0 : p.val = 0 := by omega
    rw [e]
    refine scr_step m c ⟨0, hn⟩ b p hp ?_ _
    rw [h0]
    exact scr_zero m c _ b
  | succ n ih =>
    intro hn b p hp
    by_cases h0 : (n + 1) % 16 = 0
    · have e := scr_A m c ⟨n + 1, hn⟩ h0
      have h0 : p.val = 0 := by omega
      rw [e]
      refine scr_step m c ⟨n + 1, hn⟩ b p hp ?_ _
      rw [h0]
      exact scr_zero m c _ b
    · have hs := ih (Nat.lt_of_succ_lt hn) b ⟨p.val - 1, by omega⟩ (by dsimp only; omega)
      have hp' : 8 * (p.val - 1) + 8 = 8 * p.val := by omega
      dsimp only at hs
      rw [hp'] at hs
      by_cases h1 : (n + 1) % 16 = 15
      · rw [scr_C m c ⟨n + 1, hn⟩ h0 h1]
        exact scr_step m c ⟨n + 1, hn⟩ b p hp hs _
      · rw [scr_B m c ⟨n + 1, hn⟩ h0 h1]
        exact scr_step m c ⟨n + 1, hn⟩ b p hp hs _

/-- The first result's text. -/
abbrev obO (b : Fin 2) (h : Fin 4) := obOf (a0 m c) (a1 m c) (a2 m c) (a3 m c) (a4 m c) (a5 m c) (a6 m c) (a7 m c) b h

include ht in
theorem tile_at {s : Vec Ideal S4x128x128 .f32} (hs : Scr m c s b (8 * p.val)) (ci : Fin 8) (h : Fin 4) (u : Fin 64) (e : Fin 128) :
    View.canon (tiles (tileAt m c t (sIn s))) (ix2 (rowB ci u) (colB h e)) = obO m c b h (8 * p.val + ci.val) u e :=
  (canon_tiles32 _ _ ci h u e rfl rfl).trans ((blk m c t b p ht h).tile (hs.pad m c h) ci u e)

include ht in
theorem out_at (ci : Fin 8) (h : Fin 4) (u : Fin 64) (e : Fin 128) :
    (outsAt0 m c t.val t.isLt).1 (ix2 (rowB ci u) (colB h e)) = obO m c b h (8 * p.val + ci.val) u e := by
  by_cases h0 : t.val % 16 = 0
  · rw [out_A m c t h0]
    have hp : p.val = 0 := by omega
    refine tile_at m c t b p ht ?_ ci h u e
    rw [hp]
    exact scr_zero m c t b
  · have hs := scr_all m c (t.val - 1) (Nat.lt_of_le_of_lt (Nat.sub_le _ _) t.isLt) b ⟨p.val - 1, by omega⟩ (by dsimp only; omega)
    have hp' : 8 * (p.val - 1) + 8 = 8 * p.val := by omega
    dsimp only at hs
    rw [hp'] at hs
    by_cases h1 : t.val % 16 = 15
    · rw [out_C m c t h0 h1]
      exact tile_at m c t b p ht hs ci h u e
    · rw [out_B m c t h0 h1]
      exact tile_at m c t b p ht hs ci h u e

theorem st_at (hb : t.val = 16 * b.val + 15) (z : Fin 1) (h : Fin 4) (e d : Fin 128) :
    (outsAt0 m c t.val t.isLt).2.1 (ix4 z h e d) = padT (stO m c b h 128) e d := by
  rw [st_C m c t (by omega) (by omega)]
  exact scr_all m c t.val t.isLt b 15 hb h e d

/-- The first array, at token `u` of chunk `n` of sequence `b`. -/
theorem G9_apply (n : ℕ) (hn : n < 128) (u : Fin 64) (h : Fin 4) (e : Fin 128) :
    Value.G9 m c (ix2 (row b n u) (colV h e)) = obO m c b h n u e := by
  have hr : (row b n u).val = 8192 * b.val + 64 * n + u.val := Nat.mod_eq_of_lt (by omega)
  have ep : Value.pt9Of (ix2 (row b n u) (colV h e)) = 16 * b.val + n / 8 := by
    show 1 * ((row b n u).val / 512 - 0) + 1 * ((128 * h.val + e.val) / 512 - 0) = _
    omega
  have hlt : 16 * b.val + n / 8 < cfg0.N := lt_of_lt_of_eq (by omega) N_0.symm
  have el : Value.loc9Of (ix2 (row b n u) (colV h e)) = ix2 (rowB ⟨n % 8, by omega⟩ u) (colB h e) := funext fun a => by
    match a with
    | ⟨0, _⟩ => exact Fin.ext (show (row b n u).val % 512 = 64 * (n % 8) + u.val by omega)
    | ⟨1, _⟩ => exact Fin.ext (show (128 * h.val + e.val) % 512 = 128 * h.val + e.val by omega)
  have key := out_at m c ⟨16 * b.val + n / 8, hlt⟩ b ⟨n / 8, by omega⟩ rfl ⟨n % 8, by omega⟩ h u e
  have en : 8 * (n / 8) + n % 8 = n := by omega
  dsimp only at key
  rw [en] at key
  unfold Value.G9
  have hp : Value.pt9Of (ix2 (row b n u) (colV h e)) < cfg0.N := by rw [ep]; exact hlt
  rw [dif_pos hp, el, ← Value.outsAt0_sweep m c _ hp]
  simp only [ep]
  exact key

/-- The second array. -/
theorem G10_apply (h : Fin 4) (e d : Fin 128) : Value.G10 m c (ix4 b h e d) = padT (stO m c b h 128) e d := by
  have ep : Value.pt10Of (ix4 b h e d) = 16 * b.val + 15 := by
    show 16 * (1 * (b.val / 1 - 0) + 1 * (h.val / 4 - 0) + 1 * (e.val / 128 - 0) + 1 * (d.val / 128 - 0)) + 15 = _
    omega
  have hlt : 16 * b.val + 15 < cfg0.N := lt_of_lt_of_eq (by omega) N_0.symm
  have el : Value.loc10Of (ix4 b h e d) = ix4 0 h e d := funext fun a => by
    match a with
    | ⟨0, _⟩ => exact Fin.ext (show b.val % 1 = 0 by omega)
    | ⟨1, _⟩ => exact Fin.ext (show h.val % 4 = h.val by omega)
    | ⟨2, _⟩ => exact Fin.ext (show e.val % 128 = e.val by omega)
    | ⟨3, _⟩ => exact Fin.ext (show d.val % 128 = d.val by omega)
  have key := st_at m c ⟨16 * b.val + 15, hlt⟩ b rfl 0 h e d
  unfold Value.G10
  have hp : Value.pt10Of (ix4 b h e d) < cfg0.N := by rw [ep]; exact hlt
  rw [dif_pos hp, el, ← Value.outsAt0_sweep m c _ hp]
  simp only [ep]
  exact key

end Cert.KernelIdeal.Cell

end
-- ==== Proof.RefRun.lean ====
/- The reference's loop, read as an iteration of the state its trips hand on: what a trip writes, over the state the trips before left. -/
module

public import proofs.«01_k».proof.Proof.Gen.ReferenceIdeal.Run
public import proofs.«01_k».proof.Proof.Gen.ReferenceIdeal.Step
public import Idealize.ShloMosaic.Lib.Pipeline.ValueKit

@[expose] public section

set_option maxRecDepth 16384

noncomputable section

open Idealize.ShloMosaic Idealize.ShloMosaic.TcCoe Idealize.SL.Sem

namespace Cert.ReferenceIdeal.Trips

open Cert.ReferenceIdeal Cert.ReferenceIdeal.Gen Cert.ReferenceIdeal.Value StableHlo

variable {F : FTy → Type} [FloatOps F]

/-- The buffers a trip reads, of the state before trip `k`. -/
structure Holds (V : Valuation τ sig (Elt F)) (k : ℕ) (s : Step.State F) : Prop where
  h0 : V (Proc.devRef .tc main_v31_0) = s.main_v31_0
  h1 : V (Proc.devRef .tc main_v31_1) = s.main_v31_1
  h2 : V (Proc.devRef .tc main_v31_2) = s.main_v31_2
  h3 : V (Proc.devRef .tc main_v31_3) = s.main_v31_3
  h4 : V (Proc.devRef .tc main_v31_4) = Step.K_main_v14 (F := F)
  h5 : V (Proc.devRef .tc main_v31_5) = constantI S_ 32 (BitVec.ofNat 32 k)
  h6 : V (Proc.devRef .tc main_v31_6) = s.main_v31_6
  h7 : V (Proc.devRef .tc main_v31_7) = s.main_v31_7

theorem holds_step {V : Valuation τ sig (Elt F)} {k : ℕ} {s : Step.State F} (h : Holds V k s) :
    Holds (STEP V) (k + 1) (Step.step k s) where
  h0 := (STEP_main_v31_0 V).trans h.h0
  h1 := (STEP_main_v31_1 V).trans h.h1
  h2 := (STEP_main_v31_2 V).trans h.h2
  h3 := (STEP_main_v31_3 V).trans h.h3
  h4 := (STEP_main_v31_4 V).trans h.h4
  h5 := by
    rw [STEP_main_v31_5]
    unfold step_main_v31_5
    rw [h.h5]
    funext x
    show BitVec.ofNat 32 k + 1#32 = BitVec.ofNat 32 (k + 1)
    rw [BitVec.ofNat_add]
  h6 := by
    rw [STEP_main_v31_6, Step.step_main_v31_6]
    unfold step_main_v31_6 res_main_while0b_v74 res_main_while0b_v60 res_main_while0b_v58 res_main_while0b_v57
    rw [h.h1, h.h2, h.h3, h.h5, h.h6]
    rfl
  h7 := by
    rw [STEP_main_v31_7, Step.step_main_v31_7]
    unfold step_main_v31_7 res_main_while0b_v62 res_main_while0b_v60 res_main_while0b_v58 res_main_while0b_v57
    rw [h.h0, h.h1, h.h2, h.h3, h.h4, h.h5, h.h6, h.h7]
    rfl

variable (m : (ℓ : Loc nD τ sig) → Buf (Elt F) ℓ) (c : Dev nD)

/-- The state before trip `k`. -/
def stN : ℕ → Step.State F
  | 0 => Step.init (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6))
  | n + 1 => Step.step n (stN n)

theorem holds_entry : Holds (entryContents preI m c) 0 (stN m c 0) where
  h0 := by (simp only [entryContents, afterL_cons, afterL_nil]; after_reads_simp) <;> rfl
  h1 := by (simp only [entryContents, afterL_cons, afterL_nil]; after_reads_simp) <;> rfl
  h2 := by (simp only [entryContents, afterL_cons, afterL_nil]; after_reads_simp) <;> rfl
  h3 := by (simp only [entryContents, afterL_cons, afterL_nil]; after_reads_simp) <;> rfl
  h4 := by (simp only [entryContents, afterL_cons, afterL_nil]; after_reads_simp) <;> rfl
  h5 := by (simp only [entryContents, afterL_cons, afterL_nil]; after_reads_simp) <;> rfl
  h6 := by (simp only [entryContents, afterL_cons, afterL_nil]; after_reads_simp) <;> rfl
  h7 := by (simp only [entryContents, afterL_cons, afterL_nil]; after_reads_simp) <;> rfl

theorem holds_iter : ∀ k, Holds (STEP^[k] (entryContents preI m c)) k (stN m c k)
  | 0 => holds_entry m c
  | k + 1 => by rw [Function.iterate_succ_apply']; exact holds_step (holds_iter k)

theorem out55 : out_main_v55 (STEP^[128] (entryContents preI m c))
    = Step.R_main_v55 (stN m c 128) (m ((c.tc : Thread nD τ).loc main_arg3)) (m ((c.tc : Thread nD τ).loc main_arg7)) := by
  unfold out_main_v55
  rw [(holds_iter m c 128).h7, iter_main_arg3 m c, iter_main_arg7 m c]
  rfl

theorem out53 : out_main_v53 (STEP^[128] (entryContents preI m c)) = Step.R_main_v53 (stN m c 128) := by
  unfold out_main_v53
  rw [(holds_iter m c 128).h6]
  rfl

end Cert.ReferenceIdeal.Trips

end
-- ==== Proof.RefVal.lean ====
/- The reference's two results at an index: the recurrence of `Spec.lean`. -/
module

public import proofs.«01_k».proof.Proof.RefRun
public import proofs.«01_k».proof.Proof.Spec
public import Idealize.ShloMosaic.Lib.DynamicIndex

@[expose] public section

set_option maxRecDepth 16384

noncomputable section

open Idealize.ShloMosaic Idealize.ShloMosaic.TcCoe Idealize.SL.Sem

namespace Cert.ReferenceIdeal.Trips

open Cert.ReferenceIdeal Cert.ReferenceIdeal.Gen Step Cert.Gla

/-- The window of the cumulative sum is 64 positions along the second axis. -/
def winEquiv : (⟨4, ![1, 64, 1, 1]⟩ : Shape).Idx ≃ Fin 64 where
  toFun w := w 1
  invFun s := ix4 0 s 0 0
  left_inv w := funext fun a => by
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv _ := rfl

theorem win_term (x : S2x64x4x64.Idx → EReal) (b : Fin 2) (t : Fin 64) (hd : Fin 4) (d : Fin 64) (e : (4 : ℕ) = 4)
    (w : (⟨4, ![1, 64, 1, 1]⟩ : Shape).Idx) :
    (if hin : ∀ a : Fin 4, (![0, 63, 0, 0] : Fin 4 → ℕ) a ≤ ((ix4 b t hd d : S2x64x4x64.Idx) (a.cast e)).val * (![1, 1, 1, 1] : Fin 4 → ℕ) a + (w a).val
        ∧ ((ix4 b t hd d : S2x64x4x64.Idx) (a.cast e)).val * (![1, 1, 1, 1] : Fin 4 → ℕ) a + (w a).val - (![0, 63, 0, 0] : Fin 4 → ℕ) a < S2x64x4x64.size a
      then x (fun a => ⟨((ix4 b t hd d : S2x64x4x64.Idx) (a.cast e)).val * (![1, 1, 1, 1] : Fin 4 → ℕ) a + (w a).val - (![0, 63, 0, 0] : Fin 4 → ℕ) a, (hin a).2⟩)
      else 0)
    = if h : 63 ≤ t.val + (winEquiv w).val then x (ix4 b ⟨t.val + (winEquiv w).val - 63, by omega⟩ hd d) else 0 := by
  have w0 : (w 0).val = 0 := Nat.lt_one_iff.1 (w 0).isLt
  have w2 : (w 2).val = 0 := Nat.lt_one_iff.1 (w 2).isLt
  have w3 : (w 3).val = 0 := Nat.lt_one_iff.1 (w 3).isLt
  have w1 : (w 1).val < 64 := (w 1).isLt
  by_cases h : 63 ≤ t.val + (winEquiv w).val
  · have h' : 63 ≤ t.val + (w 1).val := h
    rw [dif_pos h, dif_pos]
    · refine congrArg x (funext fun a => ?_)
      match a with
      | ⟨0, _⟩ => exact Fin.ext (by show b.val * 1 + (w 0).val - 0 = b.val; omega)
      | ⟨1, _⟩ => exact Fin.ext (by show t.val * 1 + (w 1).val - 63 = t.val + (w 1).val - 63; omega)
      | ⟨2, _⟩ => exact Fin.ext (by show hd.val * 1 + (w 2).val - 0 = hd.val; omega)
      | ⟨3, _⟩ => exact Fin.ext (by show d.val * 1 + (w 3).val - 0 = d.val; omega)
    · intro a
      match a with
      | ⟨0, _⟩ => exact ⟨Nat.zero_le _, by show b.val * 1 + (w 0).val - 0 < 2; omega⟩
      | ⟨1, _⟩ => exact ⟨by show 63 ≤ t.val * 1 + (w 1).val; omega, by show t.val * 1 + (w 1).val - 63 < 64; omega⟩
      | ⟨2, _⟩ => exact ⟨Nat.zero_le _, by show hd.val * 1 + (w 2).val - 0 < 4; omega⟩
      | ⟨3, _⟩ => exact ⟨Nat.zero_le _, by show d.val * 1 + (w 3).val - 0 < 64; omega⟩
  · rw [dif_neg h, dif_neg]
    intro hin
    have := (hin 1).1
    change 63 ≤ t.val * 1 + (w 1).val at this
    exact h (by show 63 ≤ t.val + (w 1).val; omega)

theorem cumsum_apply (x : S2x64x4x64.Idx → EReal) (i0 : S_.Idx → EReal) (hi : ∀ j, i0 j = 0)
    (h : S2x64x4x64.ReduceWindows ![1, 64, 1, 1] ![1, 1, 1, 1] ![0, 63, 0, 0] ![0, 0, 0, 0] S2x64x4x64) (hu : 0 < S_.numel)
    (b : Fin 2) (t : Fin 64) (hd : Fin 4) (d : Fin 64) :
    Host.reduceWindow (· + ·) ![1, 64, 1, 1] ![1, 1, 1, 1] ![0, 63, 0, 0] ![0, 0, 0, 0] x i0 h hu (ix4 b t hd d)
      = ∑ s : Fin 64, if s ≤ t then x (ix4 b s hd d) else 0 := by
  unfold Host.reduceWindow
  simp only []
  rw [foldl_add, hi, zero_add, ← Fin.sum_univ_def]
  rw [← sum_shift (fun s => x (ix4 b s hd d)) t]
  rw [← Equiv.sum_comp winEquiv]
  rw [← Equiv.sum_comp (Shape.rowMajor ⟨4, ![1, 64, 1, 1]⟩).symm]
  refine Finset.sum_congr rfl fun n _ => ?_
  exact win_term x b t hd d h.1.symm _

theorem b26_apply (j : ℕ) (s : State Ideal) (b : Fin 2) (t : Fin 64) (h : Fin 4) (d : Fin 64) :
    b26 j s (ix4 b t h d) = ∑ u : Fin 64, if u ≤ t then b23 j s (ix4 b u h d) else 0 := by
  unfold b26
  exact cumsum_apply (b23 j s) (fun _ => b25 j s (Shape.Idx.first h_S_)) (fun _ => by unfold b25 b24; pointwise)
    reduceWindows_S2x64x4x64_S2x64x4x64_w1s1p0_0_w64s1p63_0_w1s1p0_0_w1s1p0_0 (by decide) b t h d

theorem tri_sge (t u : Fin 64) (x y : EReal) :
    Scalar.select (Scalar.select (IntOp.cmpi CmpIPredicate.sge (IntOp.addi (BitVec.ofNat 32 t.val) 0#32) (BitVec.ofNat 32 u.val)) 1#1 0#1) x y
      = if u ≤ t then x else y := by
  have : ∀ t u : Fin 64, (Scalar.select (IntOp.cmpi CmpIPredicate.sge (IntOp.addi (BitVec.ofNat 32 t.val) 0#32) (BitVec.ofNat 32 u.val)) 1#1 0#1 : BitVec 1)
      = if u ≤ t then 1#1 else 0#1 := by decide
  rw [this]
  by_cases h : u ≤ t
  · rw [if_pos h, if_pos h]; rfl
  · rw [if_neg h, if_neg h]; rfl

theorem start_of_lt {j : ℕ} (hj : j < 128) : (BitVec.ofNat 32 j).toInt = j := toInt_ofNat_of_lt (by omega)

theorem slices_tok : ∀ j : Fin 128, S128x2x64x4x64.Slices ![j.val, 0, 0, 0, 0] S1x2x64x4x64 := by decide
theorem slices_val : ∀ j : Fin 128, S128x2x64x4x128.Slices ![j.val, 0, 0, 0, 0] S1x2x64x4x128 := by decide

theorem b5_apply (j : Fin 128) (s : State Ideal) (b : Fin 2) (t : Fin 64) (h : Fin 4) (d : Fin 64) :
    b5 j s (ix4 b t h d) = s.main_v31_0 (ix5 j b t h d) := by
  unfold b5 b4
  rw [Host.dynamicSlice_eq_extractStridedSlice _ _ _ ![j.val, 0, 0, 0, 0] _ (slices_tok j)
    (fun a => by match a with
      | ⟨0, _⟩ => exact start_of_lt j.isLt
      | ⟨1, _⟩ => rfl
      | ⟨2, _⟩ => rfl
      | ⟨3, _⟩ => rfl
      | ⟨4, _⟩ => rfl)]
  pointwise
theorem b11_apply (j : Fin 128) (s : State Ideal) (b : Fin 2) (t : Fin 64) (h : Fin 4) (d : Fin 64) :
    b11 j s (ix4 b t h d) = s.main_v31_1 (ix5 j b t h d) := b5_apply j { s with main_v31_0 := s.main_v31_1 } b t h d
theorem b23_apply (j : Fin 128) (s : State Ideal) (b : Fin 2) (t : Fin 64) (h : Fin 4) (d : Fin 64) :
    b23 j s (ix4 b t h d) = s.main_v31_3 (ix5 j b t h d) := b5_apply j { s with main_v31_0 := s.main_v31_3 } b t h d
theorem b17_apply (j : Fin 128) (s : State Ideal) (b : Fin 2) (t : Fin 64) (h : Fin 4) (d : Fin 128) :
    b17 j s (ix4 b t h d) = s.main_v31_2 (ix5 j b t h d) := by
  unfold b17 b16
  rw [Host.dynamicSlice_eq_extractStridedSlice _ _ _ ![j.val, 0, 0, 0, 0] _ (slices_val j)
    (fun a => by match a with
      | ⟨0, _⟩ => exact start_of_lt j.isLt
      | ⟨1, _⟩ => rfl
      | ⟨2, _⟩ => rfl
      | ⟨3, _⟩ => rfl
      | ⟨4, _⟩ => rfl)]
  pointwise

section Trip

variable (j : Fin 128) (s : State Ideal) (b : Fin 2) (h : Fin 4)

/-- Trip `j`'s queries, keys, values, log decays and state of one head. -/
abbrev tq (t d : Fin 64) : EReal := s.main_v31_0 (ix5 j b t h d)
abbrev tk (t d : Fin 64) : EReal := s.main_v31_1 (ix5 j b t h d)
abbrev tv (t : Fin 64) (e : Fin 128) : EReal := s.main_v31_2 (ix5 j b t h e)
abbrev ta (t d : Fin 64) : EReal := s.main_v31_3 (ix5 j b t h d)
abbrev tS (d : Fin 64) (e : Fin 128) : EReal := s.main_v31_6 (ix4 b h d e)

theorem cum_apply (t d : Fin 64) : b26 j s (ix4 b t h d) = cum (ta j s b h) t d := by
  rw [b26_apply]; unfold cum
  exact Finset.sum_congr rfl fun u _ => by rw [b23_apply]

theorem b55_apply (d : Fin 64) (e : Fin 128) :
    b55 j s (ix4 b h d e) = stepS (tk j s b h) (ta j s b h) (tv j s b h) (tS s b h) d e := by
  unfold b55 b54 b53 b52 b51 b50 b49 b48 b47 b46 b45 b44 b43
  pointwise
  unfold stepS
  simp only [cum_apply, b11_apply, b17_apply]

theorem b28_apply (t d : Fin 64) : b28 j s (ix4 b t h d) = tq j s b h t d * Ideal.exp (cum (ta j s b h) t d) := by
  unfold b28 b27
  pointwise
  rw [b5_apply, cum_apply]

theorem b31_apply (t d : Fin 64) : b31 j s (ix4 b t h d) = tk j s b h t d * Ideal.exp (-cum (ta j s b h) t d) := by
  unfold b31 b30 b29
  pointwise
  rw [b11_apply, cum_apply]

theorem b37_apply (t u : Fin 64) : b37 j s (ix4 b h t u) = if u ≤ t then ∑ d : Fin 64, tq j s b h t d * Ideal.exp (cum (ta j s b h) t d)
    * (tk j s b h u d * Ideal.exp (-cum (ta j s b h) u d)) else 0 := by
  unfold b37 b36 b35 b34 b33 b32
  unfold K_main_v14 K_main_call1_v4 K_main_call1_v5 K_main_v13 K_main_c K_main_call1_c_0 K_main_call1_v2 K_main_call1_v3 K_main_call1_v1
    K_main_call1_v0 K_main_call1_c
  pointwise
  rw [tri_sge]
  simp only [b28_apply, b31_apply]

theorem b42_apply (t : Fin 64) (e : Fin 128) :
    b42 j s (ix4 b t h e) = outO (tq j s b h) (tk j s b h) (ta j s b h) (tv j s b h) (tS s b h) t e := by
  unfold b42 b41 b40 b39 b38
  pointwise
  unfold outO
  simp only [b28_apply, b37_apply, b17_apply]
  congr 1
  · exact Finset.sum_congr rfl fun u _ => mul_comm _ _
  · exact Finset.sum_congr rfl fun u _ => mul_comm _ _

end Trip

end Cert.ReferenceIdeal.Trips

end
-- ==== Proof.RefOut.lean ====
/- The reference's two results, over its arguments: the recurrence of `Spec.lean`, chunk after chunk. -/
module

public import proofs.«01_k».proof.Proof.RefVal

@[expose] public section

set_option maxRecDepth 16384

noncomputable section

open Idealize.ShloMosaic Idealize.ShloMosaic.TcCoe Idealize.SL.Sem

namespace Cert.ReferenceIdeal.Trips

open Cert.ReferenceIdeal Cert.ReferenceIdeal.Gen Step Cert.Gla

theorem b61_apply (j : Fin 128) (s : State Ideal) (c : Fin 128) (b : Fin 2) (t : Fin 64) (h : Fin 4) (e : Fin 128) :
    b61 j s (ix5 c b t h e) = if c = j then b42 j s (ix4 b t h e) else s.main_v31_7 (ix5 c b t h e) := by
  unfold b61
  have hs : ∀ a : Fin 5, Host.clampedStart S128x2x64x4x128 S1x2x64x4x128 updateFits_S128x2x64x4x128_S1x2x64x4x128.1
      (fun k => (((![(constantI S_ 32 (BitVec.ofNat 32 j.val) : (⟨S_, .i32⟩ : BufTy).Contents (Elt Ideal)), (b57 j.val s), (b58 j.val s), (b59 j.val s), (b60 j.val s)] : Fin 5 → (⟨S_, .i32⟩ : BufTy).Contents (Elt Ideal))) k (Shape.Idx.first h_S_)).toInt) a
      = (![j.val, 0, 0, 0, 0] : Fin 5 → ℕ) a := fun a => by
    match a with
    | ⟨0, _⟩ => exact Host.clampedStart_of_le _ _ _ j.val (start_of_lt j.isLt) (by show j.val + 1 ≤ 128; omega)
    | ⟨1, _⟩ => exact Host.clampedStart_of_le _ _ _ 0 rfl (by show 0 + 2 ≤ 2; omega)
    | ⟨2, _⟩ => exact Host.clampedStart_of_le _ _ _ 0 rfl (by show 0 + 64 ≤ 64; omega)
    | ⟨3, _⟩ => exact Host.clampedStart_of_le _ _ _ 0 rfl (by show 0 + 4 ≤ 4; omega)
    | ⟨4, _⟩ => exact Host.clampedStart_of_le _ _ _ 0 rfl (by show 0 + 128 ≤ 128; omega)
  rw [Host.dynamicUpdateSlice_apply]
  by_cases hc : c = j
  · rw [if_pos hc, dif_pos]
    · unfold b56
      pointwise
      refine congrArg (b42 j.val s) (funext fun a => ?_)
      match a with
      | ⟨0, _⟩ => exact Fin.ext ((congrArg (fun n => b.val - n) (hs 1)).trans (Nat.sub_zero _))
      | ⟨1, _⟩ => exact Fin.ext ((congrArg (fun n => t.val - n) (hs 2)).trans (Nat.sub_zero _))
      | ⟨2, _⟩ => exact Fin.ext ((congrArg (fun n => h.val - n) (hs 3)).trans (Nat.sub_zero _))
      | ⟨3, _⟩ => exact Fin.ext ((congrArg (fun n => e.val - n) (hs 4)).trans (Nat.sub_zero _))
    · intro a
      rw [hs a]
      match a with
      | ⟨0, _⟩ => exact ⟨by show j.val ≤ c.val; omega, by show c.val < j.val + 1; omega⟩
      | ⟨1, _⟩ => exact ⟨Nat.zero_le _, by show b.val < 0 + 2; omega⟩
      | ⟨2, _⟩ => exact ⟨Nat.zero_le _, by show t.val < 0 + 64; omega⟩
      | ⟨3, _⟩ => exact ⟨Nat.zero_le _, by show h.val < 0 + 4; omega⟩
      | ⟨4, _⟩ => exact ⟨Nat.zero_le _, by show e.val < 0 + 128; omega⟩
  · rw [if_neg hc, dif_neg]
    intro hin
    have h0 := hin 0
    rw [hs 0] at h0
    obtain ⟨h1, h2⟩ := h0
    change j.val ≤ c.val at h1
    change c.val < j.val + 1 at h2
    exact hc (Fin.ext (by omega))

variable (m : (ℓ : Loc nD τ sig) → Buf (Elt Ideal) ℓ) (c : Dev nD)

abbrev g0 : S16384x256.Idx → EReal := m ((c.tc : Thread nD τ).loc main_arg0)
abbrev g1 : S16384x256.Idx → EReal := m ((c.tc : Thread nD τ).loc main_arg1)
abbrev g2 : S16384x512.Idx → EReal := m ((c.tc : Thread nD τ).loc main_arg2)
abbrev g3 : S16384x512.Idx → EReal := m ((c.tc : Thread nD τ).loc main_arg3)
abbrev g4 : S16384x16.Idx → EReal := m ((c.tc : Thread nD τ).loc main_arg4)
abbrev g5 : S4x16x256.Idx → EReal := m ((c.tc : Thread nD τ).loc main_arg5)
abbrev g6 : S4x256.Idx → EReal := m ((c.tc : Thread nD τ).loc main_arg6)
abbrev g7 : S4x4x128.Idx → EReal := m ((c.tc : Thread nD τ).loc main_arg7)

theorem tok_row (j : Fin 128) (b : Fin 2) (t : Fin 64) (n : ℕ) (hn : n < 16384) (e : n = 8192 * b.val + 64 * j.val + t.val) :
    (⟨n, hn⟩ : Fin 16384) = row b j t := by subst e; exact (row_of_lt b j.isLt t hn).symm

theorem v20_apply (a0 a1 a2 a4 a5 a6) (j : Fin 128) (b : Fin 2) (t : Fin 64) (h : Fin 4) (d : Fin 64) :
    A_main_v20 (F := Ideal) a0 a1 a2 a4 a5 a6 (ix5 j b t h d) = qOf a0 b h j t d := by
  unfold A_main_v20 A_main_v19 A_main_v18 A_main_v16 K_main_v17 K_main_cst_1 qOf
  pointwise
  rw [tok_row j b t _ _ (by omega), show (⟨h.val * 64 + d.val, by omega⟩ : Fin 256) = col h d from Fin.ext (by show h.val * 64 + d.val = 64 * h.val + d.val; omega)]

theorem v23_apply (a0 a1 a2 a4 a5 a6) (j : Fin 128) (b : Fin 2) (t : Fin 64) (h : Fin 4) (d : Fin 64) :
    A_main_v23 (F := Ideal) a0 a1 a2 a4 a5 a6 (ix5 j b t h d) = kOf a1 b h j t d := by
  unfold A_main_v23 A_main_v22 A_main_v21 kOf
  pointwise
  rw [tok_row j b t _ _ (by omega), show (⟨h.val * 64 + d.val, by omega⟩ : Fin 256) = col h d from Fin.ext (by show h.val * 64 + d.val = 64 * h.val + d.val; omega)]

theorem v26_apply (a0 a1 a2 a4 a5 a6) (j : Fin 128) (b : Fin 2) (t : Fin 64) (h : Fin 4) (d : Fin 128) :
    A_main_v26 (F := Ideal) a0 a1 a2 a4 a5 a6 (ix5 j b t h d) = vOf a2 b h j t d := by
  unfold A_main_v26 A_main_v25 A_main_v24 vOf
  pointwise
  rw [tok_row j b t _ _ (by omega), show (⟨h.val * 128 + d.val, by omega⟩ : Fin 512) = colV h d from Fin.ext (by show h.val * 128 + d.val = 128 * h.val + d.val; omega)]

theorem v12_apply (a0 a1 a2 a4 a5 a6) (r : Fin 16384) (d : Fin 256) : A_main_v12 (F := Ideal) a0 a1 a2 a4 a5 a6 (ix2 r d)
    = ls (∑ x : Fin 16, a4 (ix2 r x) * a5 (ix3 0 x d) + a6 (ix2 0 d)) := by
  have h7 : A_main_v7 (F := Ideal) a0 a1 a2 a4 a5 a6 (ix2 r d) = ∑ x : Fin 16, a4 (ix2 r x) * a5 (ix3 0 x d) + a6 (ix2 0 d) := by
    unfold A_main_v7 A_main_v6 A_main_v5 A_main_v4 A_main_v3 A_main_v2 A_main_v1 A_main_v0
    pointwise
  have hne : ∀ x y z : EReal, (if x ≠ x then y else z) = z := fun x y z => if_neg (fun h => h rfl)
  unfold A_main_v12 A_main_v10 A_main_v9 A_main_call0_v11 A_main_call0_v10 A_main_call0_v9 A_main_call0_v8 A_main_call0_v7 A_main_call0_v6
    A_main_call0_v4 A_main_call0_v3 A_main_call0_v1 K_main_call0_v5 K_main_call0_v2 K_main_call0_v0 K_main_call0_cst K_main_v11 K_main_cst A_main_v8
  pointwise
  rw [hne, h7]
  rfl

theorem v29_apply (a0 a1 a2 a4 a5 a6) (j : Fin 128) (b : Fin 2) (t : Fin 64) (h : Fin 4) (d : Fin 64) :
    A_main_v29 (F := Ideal) a0 a1 a2 a4 a5 a6 (ix5 j b t h d) = aOf a4 a5 a6 b h j t d := by
  unfold A_main_v29 A_main_v28 A_main_v27 aOf
  pointwise
  rw [tok_row j b t _ _ (by omega), show (⟨h.val * 64 + d.val, by omega⟩ : Fin 256) = col h d from Fin.ext (by show h.val * 64 + d.val = 64 * h.val + d.val; omega), v12_apply]

theorem stN_0 (b h t) (d : Fin 64) (j : Fin 128) : ∀ n, (stN m c n).main_v31_0 (ix5 j b t h d) = qOf (g0 m c) b h j t d
  | 0 => v20_apply (g0 m c) (g1 m c) (g2 m c) (g4 m c) (g5 m c) (g6 m c) j b t h d
  | n + 1 => stN_0 b h t d j n

theorem stN_1 (b h t) (d : Fin 64) (j : Fin 128) : ∀ n, (stN m c n).main_v31_1 (ix5 j b t h d) = kOf (g1 m c) b h j t d
  | 0 => v23_apply (g0 m c) (g1 m c) (g2 m c) (g4 m c) (g5 m c) (g6 m c) j b t h d
  | n + 1 => stN_1 b h t d j n

theorem stN_2 (b h t) (d : Fin 128) (j : Fin 128) : ∀ n, (stN m c n).main_v31_2 (ix5 j b t h d) = vOf (g2 m c) b h j t d
  | 0 => v26_apply (g0 m c) (g1 m c) (g2 m c) (g4 m c) (g5 m c) (g6 m c) j b t h d
  | n + 1 => stN_2 b h t d j n

theorem stN_3 (b h t) (d : Fin 64) (j : Fin 128) : ∀ n, (stN m c n).main_v31_3 (ix5 j b t h d) = aOf (g4 m c) (g5 m c) (g6 m c) b h j t d
  | 0 => v29_apply (g0 m c) (g1 m c) (g2 m c) (g4 m c) (g5 m c) (g6 m c) j b t h d
  | n + 1 => stN_3 b h t d j n

theorem stN_6 (b h) (d : Fin 64) (e : Fin 128) : ∀ n, n ≤ 128 → (stN m c n).main_v31_6 (ix4 b h d e)
      = stateOf (g1 m c) (g2 m c) (g4 m c) (g5 m c) (g6 m c) b h n d e
  | 0, _ => by
    show K_main_v15 (F := Ideal) (ix4 b h d e) = 0
    unfold K_main_v15 K_main_cst_0
    pointwise
  | n + 1, hn => by
    show b55 n (stN m c n) _ = _
    rw [b55_apply ⟨n, hn⟩]
    show _ = stepS _ _ _ (stateOf (g1 m c) (g2 m c) (g4 m c) (g5 m c) (g6 m c) b h n) d e
    unfold tk ta tv tS
    congr 1
    · funext t d; exact stN_1 m c b h t d ⟨n, hn⟩ n
    · funext t d; exact stN_3 m c b h t d ⟨n, hn⟩ n
    · funext t e; exact stN_2 m c b h t e ⟨n, hn⟩ n
    · funext d e; exact stN_6 b h d e n (by omega)

theorem stN_7 (b h) (t : Fin 64) (e : Fin 128) (j : Fin 128) : ∀ n, n ≤ 128 → j.val < n → (stN m c n).main_v31_7 (ix5 j b t h e)
      = oOf (g0 m c) (g1 m c) (g2 m c) (g4 m c) (g5 m c) (g6 m c) b h j t e
  | 0, _, hj => absurd hj (Nat.not_lt_zero _)
  | n + 1, hn, hj => by
    show b61 n (stN m c n) _ = _
    rw [b61_apply ⟨n, hn⟩]
    by_cases hjn : j = ⟨n, hn⟩
    · rw [if_pos hjn, b42_apply ⟨n, hn⟩]
      subst hjn
      unfold oOf tq tk ta tv tS
      congr 1
      · funext t d; exact stN_0 m c b h t d ⟨n, hn⟩ n
      · funext t d; exact stN_1 m c b h t d ⟨n, hn⟩ n
      · funext t d; exact stN_3 m c b h t d ⟨n, hn⟩ n
      · funext t e; exact stN_2 m c b h t e ⟨n, hn⟩ n
      · funext d e; exact stN_6 m c b h d e n (by omega)
    · rw [if_neg hjn]
      exact stN_7 b h t e j n (by omega) (by have : j.val ≠ n := fun h => hjn (Fin.ext h); omega)

/-- The gated rows, of any last state whose rows are the recurrence's. -/
theorem ob_of (s : State Ideal) (r : S16384x512.Idx → EReal) (gn : S4x4x128.Idx → EReal) (O : Fin 128 → EReal) (j : Fin 128) (b : Fin 2) (t : Fin 64) (h : Fin 4)
    (hs : ∀ e, s.main_v31_7 (ix5 j b t h e) = O e) (e : Fin 128) :
    R_main_v55 s r gn (ix2 (row b j t) (colV h e)) = gate O (gn (ix3 0 h e)) (r (ix2 (row b j t) (colV h e))) e := by
  unfold R_main_v55
  pointwise
  have hr : (row b j t).val = 8192 * b.val + 64 * j.val + t.val := Nat.mod_eq_of_lt (by omega)
  have e1 : ∀ p, (⟨(row b j t).val % 8192 / 64, p⟩ : Fin 128) = j := fun _ => Fin.ext (by show (row b j t).val % 8192 / 64 = j.val; omega)
  have e2 : ∀ p, (⟨(row b j t).val / 8192, p⟩ : Fin 2) = b := fun _ => Fin.ext (by show (row b j t).val / 8192 = b.val; omega)
  have e3 : ∀ p, (⟨(row b j t).val % 8192 % 64, p⟩ : Fin 64) = t := fun _ => Fin.ext (by show (row b j t).val % 8192 % 64 = t.val; omega)
  have e4 : ∀ p, (⟨(128 * h.val + e.val) / 128, p⟩ : Fin 4) = h := fun _ => Fin.ext (by show (128 * h.val + e.val) / 128 = h.val; omega)
  have e5 : ∀ p, (⟨(128 * h.val + e.val) % 128, p⟩ : Fin 128) = e := fun _ => Fin.ext (by show (128 * h.val + e.val) % 128 = e.val; omega)
  have e6 : ∀ p, (⟨(128 * h.val + e.val) / 128 * 128 + (128 * h.val + e.val) % 128, p⟩ : Fin 512) = colV h e := fun _ =>
    Fin.ext (by show (128 * h.val + e.val) / 128 * 128 + (128 * h.val + e.val) % 128 = 128 * h.val + e.val; omega)
  simp only [e1, e2, e3, e4, e5, e6, hs]
  rfl

/-- The last states, of any last state. -/
theorem st_of (s : State Ideal) (S : Fin 64 → Fin 128 → EReal) (b : Fin 2) (h : Fin 4) (hs : ∀ d e, s.main_v31_6 (ix4 b h d e) = S d e) (e d : Fin 128) :
    R_main_v53 s (ix4 b h e d) = padT S e d := by
  unfold R_main_v53
  pointwise
  unfold padT
  by_cases hd : d.val < 64
  · rw [dif_pos hd, dif_pos hd]; exact hs ⟨d.val, hd⟩ e
  · rw [dif_neg hd, dif_neg hd]
    show ((((0#32 : BitVec 32).toInt : ℤ) : ℝ) : EReal) = 0
    simp

end Cert.ReferenceIdeal.Trips

end
-- ==== Proof.Final.lean ====
/- The two programs' results are equal: both are the recurrence of `Spec.lean`. -/
module

public import proofs.«01_k».proof.Proof.KerVal
public import proofs.«01_k».proof.Proof.RefOut

@[expose] public section

set_option maxRecDepth 16384

noncomputable section

open Idealize.ShloMosaic Idealize.ShloMosaic.TcCoe Idealize.SL.Sem

namespace Cert.Final

open Cert.Gla

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two memories agree on the arguments. -/
structure Same : Prop where
  h0 : ReferenceIdeal.Trips.g0 m' c = KernelIdeal.Cell.a0 m c
  h1 : ReferenceIdeal.Trips.g1 m' c = KernelIdeal.Cell.a1 m c
  h2 : ReferenceIdeal.Trips.g2 m' c = KernelIdeal.Cell.a2 m c
  h3 : ReferenceIdeal.Trips.g3 m' c = KernelIdeal.Cell.a3 m c
  h4 : ReferenceIdeal.Trips.g4 m' c = KernelIdeal.Cell.a4 m c
  h5 : ReferenceIdeal.Trips.g5 m' c = KernelIdeal.Cell.a5 m c
  h6 : ReferenceIdeal.Trips.g6 m' c = KernelIdeal.Cell.a6 m c
  h7 : ReferenceIdeal.Trips.g7 m' c = KernelIdeal.Cell.a7 m c

variable {m m' c}

/-- The reference's rows, at the last state. -/
theorem ref_ob (H : Same m m' c) (s : ReferenceIdeal.Step.State Ideal) (hs : s = ReferenceIdeal.Trips.stN m' c 128)
    (j : Fin 128) (b : Fin 2) (t : Fin 64) (h : Fin 4) (e : Fin 128) :
    ReferenceIdeal.Step.R_main_v55 s (ReferenceIdeal.Trips.g3 m' c) (ReferenceIdeal.Trips.g7 m' c) (ix2 (row b j t) (colV h e))
      = KernelIdeal.Cell.obO m c b h j t e := by
  have h7 : ∀ e, s.main_v31_7 (ix5 j b t h e) = oOf (KernelIdeal.Cell.a0 m c) (KernelIdeal.Cell.a1 m c) (KernelIdeal.Cell.a2 m c)
      (KernelIdeal.Cell.a4 m c) (KernelIdeal.Cell.a5 m c) (KernelIdeal.Cell.a6 m c) b h j t e := fun e => by
    rw [hs, ← H.h0, ← H.h1, ← H.h2, ← H.h4, ← H.h5, ← H.h6]
    exact ReferenceIdeal.Trips.stN_7 m' c b h t e j 128 (le_refl _) j.isLt
  rw [ReferenceIdeal.Trips.ob_of s _ _ _ j b t h h7 e, H.h3, H.h7]
  rfl

theorem ref_st (H : Same m m' c) (s : ReferenceIdeal.Step.State Ideal) (hs : s = ReferenceIdeal.Trips.stN m' c 128)
    (b : Fin 2) (h : Fin 4) (e d : Fin 128) :
    ReferenceIdeal.Step.R_main_v53 s (ix4 b h e d) = padT (KernelIdeal.Cell.stO m c b h 128) e d :=
  ReferenceIdeal.Trips.st_of s _ b h (fun d e => by
    rw [hs]
    unfold KernelIdeal.Cell.stO
    rw [← H.h1, ← H.h2, ← H.h4, ← H.h5, ← H.h6]
    exact ReferenceIdeal.Trips.stN_6 m' c b h d e 128 (le_refl _)) e d

theorem ob_eq (H : Same m m' c) (s : ReferenceIdeal.Step.State Ideal) (hs : s = ReferenceIdeal.Trips.stN m' c 128) :
    (ReferenceIdeal.Step.R_main_v55 s (ReferenceIdeal.Trips.g3 m' c) (ReferenceIdeal.Trips.g7 m' c) : Vec Ideal ⟨2, ![16384, 512]⟩ .bf16)
      = KernelIdeal.Value.G9 m c := by
  funext i
  idx_vars i
  obtain ⟨b, j, t, rfl⟩ : ∃ (b : Fin 2) (j : Fin 128) (t : Fin 64), i0 = row b j t :=
    ⟨⟨i0.val / 8192, by omega⟩, ⟨i0.val % 8192 / 64, by omega⟩, ⟨i0.val % 64, by omega⟩, Fin.ext (by unfold row; dsimp only; omega)⟩
  obtain ⟨h, e, rfl⟩ : ∃ (h : Fin 4) (e : Fin 128), i1 = colV h e :=
    ⟨⟨i1.val / 128, by omega⟩, ⟨i1.val % 128, by omega⟩, Fin.ext (by unfold colV; dsimp only; omega)⟩
  exact (ref_ob H s hs j b t h e).trans (KernelIdeal.Cell.G9_apply m c b j j.isLt t h e).symm

theorem st_eq (H : Same m m' c) (s : ReferenceIdeal.Step.State Ideal) (hs : s = ReferenceIdeal.Trips.stN m' c 128) :
    (ReferenceIdeal.Step.R_main_v53 s : Vec Ideal ⟨4, ![2, 4, 128, 128]⟩ .f32) = KernelIdeal.Value.G10 m c := by
  funext i
  idx_vars i
  exact (ref_st H s hs i0 i1 i2 i3).trans (KernelIdeal.Cell.G10_apply m c i0 i1 i2 i3).symm

end Cert.Final

end
-- ==== Proof.FSpec.lean ====
/- The feed-forward part over the extended reals: a norm per row, a gate with a causal convolution over the tokens of its sequence, a product with the second projection, and the last one, added to the input. -/
module

public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

namespace Cert.Ffn

/-- Entry `k` of a row over its root mean square, times the gain `g`. -/
def rms (x : Fin 2048 → EReal) (g : EReal) (k : Fin 2048) : EReal :=
  x k * Ideal.rsqrt (Ideal.div (∑ y : Fin 2048, x y * x y) (Ideal.ofBits .f32 0x45000000#32) + Ideal.ofBits .f32 0x358637BD#32) * g

/-- The convolution of a gate and its two predecessors, and the silu of `c` times `u`. -/
def conv (b w0 w1 w2 p2 p1 p0 : EReal) : EReal := b + w0 * p2 + w1 * p1 + w2 * p0
def act (c u : EReal) : EReal := c * Ideal.div 1 (1 + Ideal.exp (-c)) * u

section Args

variable (x : (⟨2, ![16384, 2048]⟩ : Shape).Idx → EReal) (g : (⟨2, ![4, 2048]⟩ : Shape).Idx → EReal)
  (wg wu : (⟨3, ![4, 2048, 5632]⟩ : Shape).Idx → EReal) (cw : (⟨3, ![4, 3, 5632]⟩ : Shape).Idx → EReal)
  (cb : (⟨2, ![4, 5632]⟩ : Shape).Idx → EReal) (wd : (⟨3, ![4, 5632, 2048]⟩ : Shape).Idx → EReal)

/-- The normed row `r`, its gates and its second projection. -/
def hOf (r : Fin 16384) (k : Fin 2048) : EReal := rms (fun k => x (ix2 r k)) (g (ix2 0 k)) k
def gateOf (r : Fin 16384) (f : Fin 5632) : EReal := ∑ k : Fin 2048, hOf x g r k * wg (ix3 0 k f)

/-- The gate `n` tokens earlier in the sequence of token `r`: zero before its start. -/
def prevOf (n : ℕ) (r : Fin 16384) (f : Fin 5632) : EReal :=
  if n ≤ r.val % 8192 then gateOf x g wg ⟨r.val - n, by omega⟩ f else 0

def convOf (r : Fin 16384) (f : Fin 5632) : EReal :=
  conv (cb (ix2 0 f)) (cw (ix3 0 0 f)) (cw (ix3 0 1 f)) (cw (ix3 0 2 f)) (prevOf x g wg 2 r f) (prevOf x g wg 1 r f) (gateOf x g wg r f)
def actOf (r : Fin 16384) (f : Fin 5632) : EReal := act (convOf x g wg cw cb r f) (gateOf x g wu r f)

/-- Row `r` of the first result. -/
def yOf (r : Fin 16384) (d : Fin 2048) : EReal := x (ix2 r d) + ∑ f : Fin 5632, actOf x g wg wu cw cb r f * wd (ix3 0 f d)

end Args

/-- The `5632` columns are 11 blocks of 512. -/
abbrev colF (j : ℕ) (hj : j < 11) (l : Fin 512) : Fin 5632 := ⟨512 * j + l.val, by omega⟩

theorem sum_blocks (F : Fin 5632 → EReal) :
    ∑ f : Fin 5632, F f = ∑ j : Fin 11, ∑ l : Fin 512, F (colF j.val j.isLt l) := by
  have e := (Equiv.sum_comp (finProdFinEquiv (m := 11) (n := 512)) (fun f : Fin (11 * 512) => F f)).symm
  refine (show ∑ f : Fin 5632, F f = ∑ f : Fin (11 * 512), F f from rfl).trans (e.trans ?_)
  rw [Fintype.sum_prod_type]
  refine Finset.sum_congr rfl fun j _ => Finset.sum_congr rfl fun l _ => congrArg F (Fin.ext ?_)
  show l.val + 512 * j.val = 512 * j.val + l.val
  omega

end Cert.Ffn

end
-- ==== Proof.FCell.lean ====
/- The terms of a grid step of the feed-forward kernel, entry by entry. -/
module

public import proofs.«01_k».proof.Proof.FSpec
public import proofs.«01_k».proof.Proof.Gen.Kernel2Ideal.Value

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn

theorem pay3_apply (x : Vec Ideal S16x2048 .f32) (g : Vec Ideal S1x1x2048 .f32) (r : Fin 16) (k : Fin 2048) :
    k0_pay3 x g (ix2 r k) = rms (fun k => x (ix2 r k)) (g (ix3 0 0 k)) k := by
  unfold k0_pay3
  pointwise
  rfl

theorem pay4_apply (x : Vec Ideal S512x2048 .f32) (g : Vec Ideal S1x1x2048 .f32) (r : Fin 512) (k : Fin 2048) :
    k0_pay4 x g (ix2 r k) = rms (fun k => x (ix2 r k)) (g (ix3 0 0 k)) k := by
  unfold k0_pay4
  pointwise
  rfl

theorem pay5_apply (x : Vec Ideal S512x2048 .f32) (g : Vec Ideal S1x1x2048 .f32) (r : Fin 512) (k : Fin 2048) :
    k0_pay5 x g (ix2 r k) = rms (fun k => x (ix2 r k)) (g (ix3 0 0 k)) k := pay4_apply x g r k

theorem pay6_apply (s : Vec Ideal S528x2048 .bf16) (w : Vec Ideal S1x2048x512 .bf16) (q : Fin 528) (l : Fin 512) :
    k0_pay6 s w (ix2 q l) = ∑ k : Fin 2048, s (ix2 q k) * w (ix3 0 k l) := by
  unfold k0_pay6
  pointwise

theorem pay7_apply (s : Vec Ideal S528x2048 .bf16) (w : Vec Ideal S1x2048x512 .bf16) (p l : Fin 512) :
    k0_pay7 s w (ix2 p l) = ∑ k : Fin 2048, s (ix2 ⟨16 + p.val, by omega⟩ k) * w (ix3 0 k l) := by
  unfold k0_pay7
  pointwise

theorem pay2_apply (v : FVec Ideal S528x512 .f32) (z : Fin 8) (l : Fin 512) :
    k0_pay2 v (ix3 0 z l) = v (ix2 ⟨520 + z.val, by omega⟩ l) := by
  unfold k0_pay2
  pointwise

theorem pay14_apply (v : FVec Ideal S528x512 .f32) (b w0 w1 w2 : Vec Ideal S1x1x512 .f32) (p l : Fin 512) :
    k0_pay14 v b w0 w1 w2 (ix2 p l) = conv (b (ix3 0 0 l)) (w0 (ix3 0 0 l)) (w1 (ix3 0 0 l)) (w2 (ix3 0 0 l))
      (v (ix2 ⟨14 + p.val, by omega⟩ l)) (v (ix2 ⟨15 + p.val, by omega⟩ l)) (v (ix2 ⟨16 + p.val, by omega⟩ l)) := by
  unfold k0_pay14
  pointwise
  have e2 : (16 + p.val + 528 - 2) % 528 = 14 + p.val := by omega
  have e1 : (16 + p.val + 528 - 1) % 528 = 15 + p.val := by omega
  simp only [e1, e2]
  rfl

theorem lt16 : ∀ n : Fin 528, (IntOp.cmpi .slt (BitVec.ofNat 32 n.val) 16#32 : BitVec 1) = if n.val < 16 then 1#1 else 0#1 := by decide
theorem lt0 : ∀ n : Fin 528, (IntOp.cmpi .slt (BitVec.ofNat 32 n.val) 0#32 : BitVec 1) = 0#1 := by decide

/-- The first 16 rows are replaced at the start of a sequence, where `z` is zero. -/
theorem start_select (z : BitVec 32) (n : ℕ) (hn : n < 528) (x y : EReal) :
    Scalar.select (IntOp.cmpi .slt (BitVec.ofNat 32 n) (Scalar.select (Scalar.cmpi .eq z 0#32) 16#32 0#32)) x y
      = if z = 0#32 ∧ n < 16 then x else y := by
  by_cases hz : z = 0#32
  · subst hz
    rw [show Scalar.select (Scalar.cmpi .eq 0#32 0#32) 16#32 0#32 = 16#32 from rfl, lt16 ⟨n, hn⟩]
    by_cases h : n < 16
    · rw [if_pos h, if_pos ⟨rfl, h⟩]; rfl
    · rw [if_neg h, if_neg (fun h' => h h'.2)]; rfl
  · have e : Scalar.select (Scalar.cmpi .eq z 0#32) 16#32 0#32 = 0#32 := by
      have : Scalar.cmpi .eq z 0#32 = 0#1 := by
        show BitVec.ofBool (z == 0#32) = 0#1
        rw [beq_false_of_ne hz]; rfl
      rw [this]; rfl
    rw [e, lt0 ⟨n, hn⟩, if_neg (fun h' => hz h'.1)]; rfl

theorem pay10_apply (v : FVec Ideal S528x512 .f32) (z : BitVec 32) (b w0 w1 w2 : Vec Ideal S1x1x512 .f32) (p l : Fin 512) :
    k0_pay10 v z b w0 w1 w2 (ix2 p l) = conv (b (ix3 0 0 l)) (w0 (ix3 0 0 l)) (w1 (ix3 0 0 l)) (w2 (ix3 0 0 l))
      (if z = 0#32 ∧ p.val < 2 then 0 else v (ix2 ⟨14 + p.val, by omega⟩ l)) (if z = 0#32 ∧ p.val < 1 then 0 else v (ix2 ⟨15 + p.val, by omega⟩ l))
      (v (ix2 ⟨16 + p.val, by omega⟩ l)) := by
  unfold k0_pay10
  pointwise
  have e2 : (16 + p.val + 528 - 2) % 528 = 14 + p.val := by omega
  have e1 : (16 + p.val + 528 - 1) % 528 = 15 + p.val := by omega
  simp only [e1, e2]
  rw [start_select z _ (by omega), start_select z _ (by omega), start_select z _ (by omega)]
  have f2 : (14 + p.val < 16) = (p.val < 2) := propext (by omega)
  have f1 : (15 + p.val < 16) = (p.val < 1) := propext (by omega)
  have f0 : ¬(z = 0#32 ∧ 16 + p.val < 16) := by omega
  rw [if_neg f0]
  simp only [f1, f2]
  unfold conv
  rw [mul_ite, mul_ite, mul_zero, mul_zero]

theorem pay13_apply (u c : FVec Ideal S512x512 .f32) (o : FVec Ideal S512x2048 .f32) (e : FVec Ideal S512x512 .f32)
    (w : Vec Ideal S1x512x2048 .bf16) (p : Fin 512) (d : Fin 2048) :
    k0_pay13 u c o e (FloatOps.ofBits FTy.f32 1065353216#32) w (ix2 p d)
      = o (ix2 p d) + ∑ l : Fin 512, c (ix2 p l) * Ideal.div 1 (e (ix2 p l)) * u (ix2 p l) * w (ix3 0 l d) := by
  unfold k0_pay13
  pointwise

theorem pay11_apply (o : Vec Ideal S512x2048 .f32) (p : Fin 512) (d : Fin 2048) : k0_pay11 o (ix2 p d) = o (ix2 p d) := by
  unfold k0_pay11
  pointwise

theorem pay12_apply (v : FVec Ideal S528x512 .f32) (z : BitVec 32) (b w0 w1 w2 : Vec Ideal S1x1x512 .f32) (p l : Fin 512) :
    k0_pay12 v z b w0 w1 w2 (ix2 p l) = 1 + Ideal.exp (-k0_pay10 v z b w0 w1 w2 (ix2 p l)) := by
  unfold k0_pay12
  pointwise
  rw [zero_sub]

theorem pay1_apply (u c : FVec Ideal S512x512 .f32) (o : FVec Ideal S512x2048 .f32)
    (w : Vec Ideal S1x512x2048 .bf16) (p : Fin 512) (d : Fin 2048) :
    k0_pay1 u c o k0_pay16 w (ix2 p d) = o (ix2 p d) + ∑ l : Fin 512, act (c (ix2 p l)) (u (ix2 p l)) * w (ix3 0 l d) := by
  unfold k0_pay1 k0_pay16
  pointwise
  simp only [zero_sub]
  rfl

end Cert.Kernel2Ideal.Ffn

end
-- ==== Proof.FOpen.lean ====
/- What a grid step leaves: its two slabs of rows, and the scratch of normed rows. -/
module

public import proofs.«01_k».proof.Proof.FCell
public import Idealize.ShloMosaic.Lib.Pipeline.CanonAppend
public import Idealize.ShloMosaic.Lib.Pipeline.ReadBack

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn

section Rows

variable {e : EltTy} {N W n : ℕ} (o : ℕ) (inb : ∀ a : Fin 2, (![o, 0] : Fin 2 → ℕ) a + (![n, W] : Fin 2 → ℕ) a ≤ (⟨2, ![N, W]⟩ : Shape).size a)
  (P : (⟨2, ![n, W]⟩ : Shape).Idx → Elt Ideal e) (L : List (View.Piece (Elt Ideal) ⟨2, ![N, W]⟩ e))

theorem row_emb (R : Fin N) (d : Fin W) (p : Fin n) (h : R.val = o + p.val) :
    (Rect.unit (s := ⟨2, ![N, W]⟩) ![o, 0] ![n, W] inb).emb (ix2 p d) = (ix2 R d : (⟨2, ![N, W]⟩ : Shape).Idx) := funext fun a => by
  match a with
  | ⟨0, _⟩ => exact Fin.ext ((Rect.idx_unit_val (s := ⟨2, ![N, W]⟩) ![o, 0] ![n, W] inb (ix2 p d) 0).trans h.symm)
  | ⟨1, _⟩ => exact Fin.ext ((Rect.idx_unit_val (s := ⟨2, ![N, W]⟩) ![o, 0] ![n, W] inb (ix2 p d) 1).trans (Nat.zero_add _))

/-- Rows of the last slab written, -/
theorem canon_row (R : Fin N) (d : Fin W) (p : Fin n) (h : R.val = o + p.val) :
    View.canon (⟨Rect.unit (s := ⟨2, ![N, W]⟩) ![o, 0] ![n, W] inb, P⟩ :: L) (ix2 R d) = P (ix2 p d) := by
  rw [← row_emb o inb R d p h]
  exact View.canon_cons_emb (Rect.unit (s := ⟨2, ![N, W]⟩) ![o, 0] ![n, W] inb) P L (ix2 p d)

/-- rows off it, and rows of a slab read. -/
theorem canon_off (R : Fin N) (d : Fin W) (h : R.val < o ∨ o + n ≤ R.val) :
    View.canon (⟨Rect.unit (s := ⟨2, ![N, W]⟩) ![o, 0] ![n, W] inb, P⟩ :: L) (ix2 R d) = View.canon L (ix2 R d) := by
  refine View.canon_cons_of_not_mem _ L fun hm => ?_
  exact Rect.not_mem_set_of_axis (Rect.unit (s := ⟨2, ![N, W]⟩) ![o, 0] ![n, W] inb) (ix2 R d) 0 o n rfl rfl rfl h hm

theorem ld_row (X : (⟨2, ![N, W]⟩ : Shape).Idx → Elt Ideal e) (R : Fin N) (d : Fin W) (p : Fin n) (h : R.val = o + p.val) :
    View.ld X (Rect.unit (s := ⟨2, ![N, W]⟩) ![o, 0] ![n, W] inb) (ix2 p d) = X (ix2 R d) :=
  congrArg X (row_emb o inb R d p h)

end Rows

variable (m : (ℓ : Loc nD τ sig) → Buf (Elt Ideal) ℓ) (c : Dev nD) (t : Fin cfg0.N)

abbrev r0 : Rect S1024x2048 := Rect.unit ![0, 0] ![512, 2048] inb_S1024x2048_S512x2048_0_0
abbrev r512 : Rect S1024x2048 := Rect.unit ![512, 0] ![512, 2048] inb_S1024x2048_S512x2048_512_0
abbrev q0 : Rect S1040x2048 := Rect.unit ![0, 0] ![528, 2048] inb_S1040x2048_S528x2048_0_0
abbrev q512 : Rect S1040x2048 := Rect.unit ![512, 0] ![528, 2048] inb_S1040x2048_S528x2048_512_0

/-- The blocks of the convolution's weights. -/
abbrev cwAt0 : Vec Ideal S1x1x512 .f32 := View.ld (iblk m c 5 t) (Rect.unit ![0, 0, 0] ![1, 1, 512] inb_S1x3x512_S1x1x512_0_0_0)
abbrev cwAt1 : Vec Ideal S1x1x512 .f32 := View.ld (iblk m c 5 t) (Rect.unit ![0, 1, 0] ![1, 1, 512] inb_S1x3x512_S1x1x512_0_1_0)
abbrev cwAt2 : Vec Ideal S1x1x512 .f32 := View.ld (iblk m c 5 t) (Rect.unit ![0, 2, 0] ![1, 1, 512] inb_S1x3x512_S1x1x512_0_2_0)

/-- The word of a block's position in its sequence. -/
def posW (i : BitVec 32) : BitVec 32 :=
  Scalar.select
    (Scalar.andi (Scalar.xori (Scalar.cmpi CmpIPredicate.slt (Scalar.remsi i 8#32) 0#32) 0#1)
      (Scalar.cmpi CmpIPredicate.ne (Scalar.remsi i 8#32) 0#32))
    (Scalar.addi (Scalar.remsi i 8#32) 8#32) (Scalar.remsi i 8#32)
abbrev posAt : BitVec 32 := posW (BitVec.ofNat 32 (grid0.coords t 0).val)

/-- The slabs stored at a point over the scratch `s` and the rows `o` they are added to. -/
def loT (s : Vec Ideal S1040x2048 .bf16) (o : FVec Ideal S512x2048 .f32) : FVec Ideal S512x2048 .f32 :=
  k0_pay13 (k0_pay7 (View.ld s q0) (iblk m c 4 t))
    (k0_pay10 (k0_pay6 (View.ld s q0) (iblk m c 3 t)) (posAt t) (iblk m c 6 t) (cwAt0 m c t) (cwAt1 m c t) (cwAt2 m c t))
    (k0_pay11 o)
    (k0_pay12 (k0_pay6 (View.ld s q0) (iblk m c 3 t)) (posAt t) (iblk m c 6 t) (cwAt0 m c t) (cwAt1 m c t) (cwAt2 m c t))
    (FloatOps.ofBits FTy.f32 1065353216#32) (iblk m c 7 t)
def hiT (s : Vec Ideal S1040x2048 .bf16) (o : FVec Ideal S512x2048 .f32) : FVec Ideal S512x2048 .f32 :=
  k0_pay1 (k0_pay9 (View.ld s q512) (iblk m c 4 t))
    (k0_pay14 (k0_pay8 (View.ld s q512) (iblk m c 3 t)) (iblk m c 6 t) (cwAt0 m c t) (cwAt1 m c t) (cwAt2 m c t))
    (k0_pay15 o) k0_pay16 (iblk m c 7 t)

/-- The normed rows written at the first point of a block of rows. -/
def scrA : Vec Ideal S1040x2048 .bf16 := View.canon
  [⟨Rect.unit ![528, 0] ![512, 2048] inb_S1040x2048_S512x2048_528_0, k0_pay5 (View.ld (iblk m c 0 t) r512) (iblk m c 2 t)⟩,
    ⟨Rect.unit ![16, 0] ![512, 2048] inb_S1040x2048_S512x2048_16_0, k0_pay4 (View.ld (iblk m c 0 t) r0) (iblk m c 2 t)⟩,
    ⟨Rect.unit ![0, 0] ![16, 2048] inb_S1040x2048_S16x2048_0_0, k0_pay3 (iblk m c 1 t) (iblk m c 2 t)⟩]

/-- The rows copied at that point, the last first. -/
abbrev xL : List (View.Piece (Elt Ideal) S1024x2048 .f32) := [⟨r512, View.ld (iblk m c 0 t) r512⟩, ⟨r0, View.ld (iblk m c 0 t) r0⟩]

/-- What the point before left. -/
abbrev oP : Vec Ideal S1024x2048 .f32 := (outsAt0 m c (t.val - 1) (Nat.lt_of_le_of_lt (Nat.sub_le _ _) t.isLt)).1
abbrev sP : Vec Ideal S1040x2048 .bf16 := (outsAt0 m c (t.val - 1) (Nat.lt_of_le_of_lt (Nat.sub_le _ _) t.isLt)).2.2

theorem unread_scr (s : Vec Ideal S1040x2048 .bf16) :
    View.read (Elt Ideal) (View.whole cc0_scratch0) ((Memref.isWhole_whole cc0_scratch0).unread s) = s :=
  (Memref.isWhole_whole cc0_scratch0).read_unread _

theorem scr_A (h0 : t.val % 11 = 0) : (outsAt0 m c t.val t.isLt).2.2 = scrA m c t := by
  rw [outsAt0_A m c t h0]
  funext y
  frame_out
  rfl

theorem scr_B (h0 : ¬t.val % 11 = 0) : (outsAt0 m c t.val t.isLt).2.2 = sP m c t := by
  rw [outsAt0_B m c t h0]
  unfold sout0_B_0
  rfl

theorem out_B (h0 : ¬t.val % 11 = 0) :
    (outsAt0 m c t.val t.isLt).1 = View.canon [⟨r512, hiT m c t (sP m c t) (View.ld (oP m c t) r512)⟩, ⟨r0, loT m c t (sP m c t) (View.ld (oP m c t) r0)⟩] := by
  rw [outsAt0_B m c t h0]
  funext y
  frame_out
  simp only [unread_scr]
  rfl

abbrev oA1 : FVec Ideal S512x2048 .f32 := View.ld (View.canon (xL m c t)) r0
abbrev oA2 : FVec Ideal S512x2048 .f32 := View.ld (View.canon (⟨r0, loT m c t (scrA m c t) (oA1 m c t)⟩ :: xL m c t)) r512

theorem out_A (h0 : t.val % 11 = 0) :
    (outsAt0 m c t.val t.isLt).1 = View.canon (⟨r512, hiT m c t (scrA m c t) (oA2 m c t)⟩ :: ⟨r0, loT m c t (scrA m c t) (oA1 m c t)⟩ :: xL m c t) := by
  rw [outsAt0_A m c t h0]
  funext y
  frame_out
  simp only [View.readCov_eq_canon']
  rfl

theorem tail_A (h0 : t.val % 11 = 0) : (outsAt0 m c t.val t.isLt).2.1 = k0_pay2 (k0_pay8 (View.ld (scrA m c t) q512) (iblk m c 3 t)) := by
  rw [outsAt0_A m c t h0]
  funext y
  frame_out
  simp only [View.readCov_eq_canon']
  rfl

theorem tail_B (h0 : ¬t.val % 11 = 0) : (outsAt0 m c t.val t.isLt).2.1 = k0_pay2 (k0_pay8 (View.ld (sP m c t) q512) (iblk m c 3 t)) := by
  rw [outsAt0_B m c t h0]
  funext y
  frame_out
  simp only [unread_scr]

end Cert.Kernel2Ideal.Ffn

end
-- ==== Proof.FArr.lean ====
/- The blocks of the feed-forward kernel's windows at a grid point, over the program's arguments. -/
module

public import proofs.«01_k».proof.Proof.FCell
public import Idealize.ShloMosaic.Lib.StableHlo.ReadAt

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn
variable (m : (ℓ : Loc nD τ sig) → Buf (Elt Ideal) ℓ) (c : Dev nD)

/-- The arguments. -/
abbrev a0 : Vec Ideal S16384x2048 .f32 := m ((c : Thread nD τ).loc main_arg0)
abbrev a1 : Vec Ideal S4x2048 .f32 := m ((c : Thread nD τ).loc main_arg1)
abbrev a2 : Vec Ideal S4x2048x5632 .f32 := m ((c : Thread nD τ).loc main_arg2)
abbrev a3 : Vec Ideal S4x2048x5632 .f32 := m ((c : Thread nD τ).loc main_arg3)
abbrev a4 : Vec Ideal S4x3x5632 .f32 := m ((c : Thread nD τ).loc main_arg4)
abbrev a5 : Vec Ideal S4x5632 .f32 := m ((c : Thread nD τ).loc main_arg5)
abbrev a6 : Vec Ideal S4x5632x2048 .f32 := m ((c : Thread nD τ).loc main_arg6)

theorem v0_apply (z : Fin 4) (x : Fin 1) (k : Fin 2048) : (V m c main_v0 : Vec Ideal S4x1x2048 .f32) (ix3 z x k) = a1 m c (ix2 z k) := by
  unfold V
  after_reads_at
theorem v1_apply (z : Fin 4) (k : Fin 2048) (f : Fin 5632) : (V m c main_v1 : Vec Ideal S4x2048x5632 .bf16) (ix3 z k f) = a2 m c (ix3 z k f) := by
  unfold V
  after_reads_at
theorem v2_apply (z : Fin 4) (k : Fin 2048) (f : Fin 5632) : (V m c main_v2 : Vec Ideal S4x2048x5632 .bf16) (ix3 z k f) = a3 m c (ix3 z k f) := by
  unfold V
  after_reads_at
theorem v3_apply (z : Fin 4) (x : Fin 1) (f : Fin 5632) : (V m c main_v3 : Vec Ideal S4x1x5632 .f32) (ix3 z x f) = a5 m c (ix2 z f) := by
  unfold V
  after_reads_at
theorem v4_apply (z : Fin 4) (f : Fin 5632) (k : Fin 2048) : (V m c main_v4 : Vec Ideal S4x5632x2048 .bf16) (ix3 z f k) = a6 m c (ix3 z f k) := by
  unfold V
  after_reads_at
theorem w0_apply (r : Fin 16384) (k : Fin 2048) : (V m c main_arg0 : Vec Ideal S16384x2048 .f32) (ix2 r k) = a0 m c (ix2 r k) := by
  unfold V
  after_reads_at
theorem w4_apply (z : Fin 4) (x : Fin 3) (f : Fin 5632) : (V m c main_arg4 : Vec Ideal S4x3x5632 .f32) (ix3 z x f) = a4 m c (ix3 z x f) := by
  unfold V
  after_reads_at

theorem idx0 : ∀ t : Fin cfg0.N, win0_0.index t (0 : Fin 2) = t.val / 11 ∧ win0_0.index t (1 : Fin 2) = 0 := by decide
theorem idx1 : ∀ t : Fin cfg0.N, win0_1.index t (0 : Fin 2) = 64 * (t.val / 11) - 1 ∧ win0_1.index t (1 : Fin 2) = 0 := by decide
theorem idx2 : ∀ t : Fin cfg0.N, win0_2.index t (0 : Fin 3) = 0 ∧ win0_2.index t (1 : Fin 3) = 0 ∧ win0_2.index t (2 : Fin 3) = 0 := by decide
theorem idx3 : ∀ t : Fin cfg0.N, win0_3.index t (0 : Fin 3) = 0 ∧ win0_3.index t (1 : Fin 3) = 0 ∧ win0_3.index t (2 : Fin 3) = t.val % 11 := by decide
theorem idx4 : ∀ t : Fin cfg0.N, win0_4.index t (0 : Fin 3) = 0 ∧ win0_4.index t (1 : Fin 3) = 0 ∧ win0_4.index t (2 : Fin 3) = t.val % 11 := by decide
theorem idx5 : ∀ t : Fin cfg0.N, win0_5.index t (0 : Fin 3) = 0 ∧ win0_5.index t (1 : Fin 3) = 0 ∧ win0_5.index t (2 : Fin 3) = t.val % 11 := by decide
theorem idx6 : ∀ t : Fin cfg0.N, win0_6.index t (0 : Fin 3) = 0 ∧ win0_6.index t (1 : Fin 3) = 0 ∧ win0_6.index t (2 : Fin 3) = t.val % 11 := by decide
theorem idx7 : ∀ t : Fin cfg0.N, win0_7.index t (0 : Fin 3) = 0 ∧ win0_7.index t (1 : Fin 3) = t.val % 11 ∧ win0_7.index t (2 : Fin 3) = 0 := by decide

theorem coord0 : ∀ t : Fin cfg0.N, (grid0.coords t 0).val = t.val / 11 := by decide

variable (t : Fin cfg0.N)

theorem lt176 : t.val < 176 := lt_of_lt_of_eq t.isLt N_0
abbrev rowT (r : Fin 1024) : Fin 16384 := ⟨1024 * (t.val / 11) + r.val, by have := lt176 t; omega⟩
abbrev haloT (r : Fin 16) : Fin 16384 := ⟨16 * (64 * (t.val / 11) - 1) + r.val, by have := lt176 t; omega⟩
abbrev colT (l : Fin 512) : Fin 5632 := colF (t.val % 11) (Nat.mod_lt _ (by omega)) l

theorem ib0 (r : Fin 1024) (k : Fin 2048) : (iblk m c 0 t : Vec Ideal S1024x2048 .f32) (ix2 r k) = a0 m c (ix2 (rowT t r) k) := by
  have := lt176 t
  rw [← w0_apply]
  unfold iblk
  blk_ext [idx0 t]
theorem ib1 (r : Fin 16) (k : Fin 2048) : (iblk m c 1 t : Vec Ideal S16x2048 .f32) (ix2 r k) = a0 m c (ix2 (haloT t r) k) := by
  have := lt176 t
  rw [← w0_apply]
  unfold iblk
  blk_ext [idx1 t]
theorem ib2 (z z' : Fin 1) (k : Fin 2048) : (iblk m c 2 t : Vec Ideal S1x1x2048 .f32) (ix3 z z' k) = a1 m c (ix2 0 k) := by
  rw [← v0_apply m c 0 0]
  unfold iblk
  blk_ext [idx2 t]
theorem ib3 (z : Fin 1) (k : Fin 2048) (l : Fin 512) : (iblk m c 3 t : Vec Ideal S1x2048x512 .bf16) (ix3 z k l) = a2 m c (ix3 0 k (colT t l)) := by
  have := lt176 t
  rw [← v1_apply]
  unfold iblk
  blk_ext [idx3 t]
theorem ib4 (z : Fin 1) (k : Fin 2048) (l : Fin 512) : (iblk m c 4 t : Vec Ideal S1x2048x512 .bf16) (ix3 z k l) = a3 m c (ix3 0 k (colT t l)) := by
  have := lt176 t
  rw [← v2_apply]
  unfold iblk
  blk_ext [idx4 t]
theorem ib5 (z : Fin 1) (x : Fin 3) (l : Fin 512) : (iblk m c 5 t : Vec Ideal S1x3x512 .f32) (ix3 z x l) = a4 m c (ix3 0 x (colT t l)) := by
  have := lt176 t
  rw [← w4_apply]
  unfold iblk
  blk_ext [idx5 t]
theorem ib6 (z z' : Fin 1) (l : Fin 512) : (iblk m c 6 t : Vec Ideal S1x1x512 .f32) (ix3 z z' l) = a5 m c (ix2 0 (colT t l)) := by
  have := lt176 t
  rw [← v3_apply m c 0 0]
  unfold iblk
  blk_ext [idx6 t]
theorem ib7 (z : Fin 1) (l : Fin 512) (d : Fin 2048) : (iblk m c 7 t : Vec Ideal S1x512x2048 .bf16) (ix3 z l d) = a6 m c (ix3 0 (colT t l) d) := by
  have := lt176 t
  rw [← v4_apply]
  unfold iblk
  blk_ext [idx7 t]

end Cert.Kernel2Ideal.Ffn

end
-- ==== Proof.FKer.lean ====
/- What the feed-forward kernel's grid leaves: the rows of `FSpec.lean`, 512 columns a point. -/
module

public import proofs.«01_k».proof.Proof.FOpen
public import proofs.«01_k».proof.Proof.FArr

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn
variable (m : (ℓ : Loc nD τ sig) → Buf (Elt Ideal) ℓ) (c : Dev nD)

/-- `FSpec.lean`'s rows, over the arguments. -/
abbrev hO := hOf (a0 m c) (a1 m c)
abbrev gateO := gateOf (a0 m c) (a1 m c) (a2 m c)
abbrev upO := gateOf (a0 m c) (a1 m c) (a3 m c)
abbrev actO := actOf (a0 m c) (a1 m c) (a2 m c) (a3 m c) (a4 m c) (a5 m c)

/-- The scratch of block `i` of 1024 rows: the normed rows from 16 before its first. -/
def Scr (s : Vec Ideal S1040x2048 .bf16) (i : ℕ) : Prop :=
  ∀ (q : Fin 1040) (k : Fin 2048) (r : Fin 16384), r.val + 16 = 1024 * i + q.val → s (ix2 q k) = hO m c r k

section Point

variable (t : Fin cfg0.N)

theorem scrA_ok : Scr m c (scrA m c t) (t.val / 11) := by
  intro q k r hr
  have := q.isLt
  unfold scrA
  by_cases h0 : q.val < 16
  · rw [canon_off 528 _ _ _ q k (by omega), canon_off 16 _ _ _ q k (by omega), canon_row 0 _ _ _ q k ⟨q.val, h0⟩ (by dsimp only; omega), pay3_apply]
    have e : haloT t ⟨q.val, h0⟩ = r := Fin.ext (by dsimp only; omega)
    simp only [ib1, ib2, e]
    rfl
  · by_cases h1 : q.val < 528
    · rw [canon_off 528 _ _ _ q k (by omega), canon_row 16 _ _ _ q k ⟨q.val - 16, by omega⟩ (by dsimp only; omega), pay4_apply]
      have e : rowT t ⟨q.val - 16, by omega⟩ = r := Fin.ext (by dsimp only; omega)
      have e' : ∀ k, View.ld (iblk m c 0 t) r0 (ix2 ⟨q.val - 16, by omega⟩ k) = a0 m c (ix2 r k) := fun k => by
        rw [ld_row 0 _ _ ⟨q.val - 16, by omega⟩ k ⟨q.val - 16, by omega⟩ (by dsimp only; omega), ib0, e]
      simp only [e', ib2]
      rfl
    · rw [canon_row 528 _ _ _ q k ⟨q.val - 528, by omega⟩ (by dsimp only; omega), pay5_apply]
      have e : rowT t ⟨q.val - 16, by omega⟩ = r := Fin.ext (by dsimp only; omega)
      have e' : ∀ k, View.ld (iblk m c 0 t) r512 (ix2 ⟨q.val - 528, by omega⟩ k) = a0 m c (ix2 r k) := fun k => by
        rw [ld_row 512 _ _ ⟨q.val - 16, by omega⟩ k ⟨q.val - 528, by omega⟩ (by dsimp only; omega), ib0, e]
      simp only [e', ib2]
      rfl

theorem pos_zero : ∀ i : Fin 16, posW (BitVec.ofNat 32 i.val) = 0#32 ↔ i.val % 8 = 0 := by decide

theorem posAt_zero : posAt t = 0#32 ↔ t.val / 11 % 8 = 0 := by
  have := lt176 t
  unfold posAt
  rw [coord0]
  exact pos_zero ⟨t.val / 11, by omega⟩

variable {m c} {s : Vec Ideal S1040x2048 .bf16} (hs : Scr m c s (t.val / 11))

include hs in
theorem gate_lo (q : Fin 528) (l : Fin 512) (r : Fin 16384) (hr : r.val + 16 = 1024 * (t.val / 11) + q.val) :
    k0_pay6 (View.ld s q0) (iblk m c 3 t) (ix2 q l) = gateO m c r (colT t l) := by
  rw [pay6_apply]
  refine Finset.sum_congr rfl fun k _ => ?_
  rw [ld_row 0 _ _ ⟨q.val, by omega⟩ k q (by dsimp only; omega), ib3, hs _ k r (by dsimp only; omega)]

include hs in
theorem gate_hi (q : Fin 528) (l : Fin 512) (r : Fin 16384) (hr : r.val + 16 = 1024 * (t.val / 11) + (512 + q.val)) :
    k0_pay8 (View.ld s q512) (iblk m c 3 t) (ix2 q l) = gateO m c r (colT t l) := by
  refine (pay6_apply _ _ q l).trans ?_
  refine Finset.sum_congr rfl fun k _ => ?_
  rw [ld_row 512 _ _ ⟨512 + q.val, by omega⟩ k q (by dsimp only), ib3, hs _ k r (by dsimp only; omega)]

include hs in
theorem up_lo (p l : Fin 512) (r : Fin 16384) (hr : r.val = 1024 * (t.val / 11) + p.val) :
    k0_pay7 (View.ld s q0) (iblk m c 4 t) (ix2 p l) = upO m c r (colT t l) := by
  rw [pay7_apply]
  refine Finset.sum_congr rfl fun k _ => ?_
  rw [ld_row 0 _ _ ⟨16 + p.val, by omega⟩ k ⟨16 + p.val, by omega⟩ (by dsimp only; omega), ib4, hs _ k r (by dsimp only; omega)]

include hs in
theorem up_hi (p l : Fin 512) (r : Fin 16384) (hr : r.val = 1024 * (t.val / 11) + (512 + p.val)) :
    k0_pay9 (View.ld s q512) (iblk m c 4 t) (ix2 p l) = upO m c r (colT t l) := by
  refine (pay7_apply _ _ p l).trans ?_
  refine Finset.sum_congr rfl fun k _ => ?_
  rw [ld_row 512 _ _ ⟨512 + (16 + p.val), by omega⟩ k ⟨16 + p.val, by omega⟩ (by dsimp only), ib4, hs _ k r (by dsimp only; omega)]

variable (m c) in
theorem cw_at (l : Fin 512) : cwAt0 m c t (ix3 0 0 l) = a4 m c (ix3 0 0 (colT t l)) ∧ cwAt1 m c t (ix3 0 0 l) = a4 m c (ix3 0 1 (colT t l))
    ∧ cwAt2 m c t (ix3 0 0 l) = a4 m c (ix3 0 2 (colT t l)) := by
  rw [← ib5 m c t 0 0, ← ib5 m c t 0 1, ← ib5 m c t 0 2]
  refine ⟨?_, ?_, ?_⟩
  · unfold cwAt0; pointwise
  · unfold cwAt1; pointwise
  · unfold cwAt2; pointwise

include hs in
theorem conv_lo (p l : Fin 512) (r : Fin 16384) (hr : r.val = 1024 * (t.val / 11) + p.val) :
    k0_pay10 (k0_pay6 (View.ld s q0) (iblk m c 3 t)) (posAt t) (iblk m c 6 t) (cwAt0 m c t) (cwAt1 m c t) (cwAt2 m c t) (ix2 p l)
      = convOf (a0 m c) (a1 m c) (a2 m c) (a4 m c) (a5 m c) r (colT t l) := by
  have hp := posAt_zero t
  have h176 := lt176 t
  obtain ⟨c0, c1, c2⟩ := cw_at m c t l
  rw [pay10_apply, ib6, c0, c1, c2, gate_lo t hs ⟨16 + p.val, by omega⟩ l r (by dsimp only; omega)]
  unfold convOf
  have key : ∀ (n : ℕ) (hn : n ≤ 2) (h : 16 - n + p.val < 528), (if posAt t = 0#32 ∧ p.val < n then (0 : EReal)
      else k0_pay6 (View.ld s q0) (iblk m c 3 t) (ix2 ⟨16 - n + p.val, h⟩ l)) = prevOf (a0 m c) (a1 m c) (a2 m c) n r (colT t l) := by
    intro n hn h
    unfold prevOf
    by_cases hz : posAt t = 0#32 ∧ p.val < n
    · have := hp.1 hz.1
      rw [if_pos hz, if_neg (by omega)]
    · have hz' : n ≤ r.val % 8192 := by
        by_cases h8 : t.val / 11 % 8 = 0
        · have : ¬p.val < n := fun h' => hz ⟨hp.2 h8, h'⟩
          omega
        · omega
      rw [if_neg hz, if_pos hz', gate_lo t hs _ l ⟨r.val - n, by omega⟩ (by dsimp only; omega)]
  have k2 := key 2 (le_refl _) (by omega)
  have k1 := key 1 (by omega) (by omega)
  rw [← k2, ← k1]

include hs in
theorem conv_hi (p l : Fin 512) (r : Fin 16384) (hr : r.val = 1024 * (t.val / 11) + (512 + p.val)) :
    k0_pay14 (k0_pay8 (View.ld s q512) (iblk m c 3 t)) (iblk m c 6 t) (cwAt0 m c t) (cwAt1 m c t) (cwAt2 m c t) (ix2 p l)
      = convOf (a0 m c) (a1 m c) (a2 m c) (a4 m c) (a5 m c) r (colT t l) := by
  obtain ⟨c0, c1, c2⟩ := cw_at m c t l
  rw [pay14_apply, ib6, c0, c1, c2, gate_hi t hs ⟨16 + p.val, by omega⟩ l r (by dsimp only; omega),
    gate_hi t hs ⟨15 + p.val, by omega⟩ l ⟨r.val - 1, by omega⟩ (by dsimp only; omega),
    gate_hi t hs ⟨14 + p.val, by omega⟩ l ⟨r.val - 2, by omega⟩ (by dsimp only; omega)]
  unfold convOf prevOf
  rw [if_pos (by omega), if_pos (by omega)]

/-- The `j`-th 512 columns' part of row `r`. -/
def part (m : (ℓ : Loc nD τ sig) → Buf (Elt Ideal) ℓ) (c : Dev nD) (r : Fin 16384) (d : Fin 2048) (j : ℕ) : EReal :=
  if hj : j < 11 then ∑ l : Fin 512, actO m c r (colF j hj l) * a6 m c (ix3 0 (colF j hj l) d) else 0

include hs in
theorem lo_at (o : FVec Ideal S512x2048 .f32) (p : Fin 512) (d : Fin 2048) (r : Fin 16384) (hr : r.val = 1024 * (t.val / 11) + p.val) :
    loT m c t s o (ix2 p d) = o (ix2 p d) + part m c r d (t.val % 11) := by
  refine (pay13_apply _ _ _ _ _ p d).trans ?_
  unfold part
  rw [dif_pos (Nat.mod_lt _ (by omega))]
  refine congrArg₂ (· + ·) (pay11_apply o p d) ?_
  refine Finset.sum_congr rfl fun l _ => ?_
  rw [pay12_apply, conv_lo t hs p l r hr, up_lo t hs p l r hr, ib7]
  rfl

include hs in
theorem hi_at (o : FVec Ideal S512x2048 .f32) (p : Fin 512) (d : Fin 2048) (r : Fin 16384) (hr : r.val = 1024 * (t.val / 11) + (512 + p.val)) :
    hiT m c t s o (ix2 p d) = o (ix2 p d) + part m c r d (t.val % 11) := by
  refine (pay1_apply _ _ _ _ p d).trans ?_
  unfold part
  rw [dif_pos (Nat.mod_lt _ (by omega))]
  refine congrArg₂ (· + ·) (pay11_apply o p d) ?_
  refine Finset.sum_congr rfl fun l _ => ?_
  rw [conv_hi t hs p l r hr, up_hi t hs p l r hr, ib7]
  rfl

end Point

theorem scr_all : ∀ (n : ℕ) (hn : n < cfg0.N), Scr m c (outsAt0 m c n hn).2.2 (n / 11) := by
  intro n
  induction n with
  | zero =>
    intro hn
    rw [scr_A m c ⟨0, hn⟩ rfl]
    exact scrA_ok m c ⟨0, hn⟩
  | succ n ih =>
    intro hn
    by_cases h0 : (n + 1) % 11 = 0
    · rw [scr_A m c ⟨n + 1, hn⟩ h0]
      exact scrA_ok m c ⟨n + 1, hn⟩
    · rw [scr_B m c ⟨n + 1, hn⟩ h0]
      have e : (n + 1) / 11 = n / 11 := by omega
      rw [e]
      exact ih (Nat.lt_of_succ_lt hn)

variable (t : Fin cfg0.N)

theorem sP_ok (h0 : ¬t.val % 11 = 0) : Scr m c (sP m c t) (t.val / 11) := by
  have e : t.val / 11 = (t.val - 1) / 11 := by omega
  rw [e]
  exact scr_all m c _ _

/-- The copied rows. -/
theorem xL_at (q : Fin 1024) (d : Fin 2048) (r : Fin 16384) (hr : r.val = 1024 * (t.val / 11) + q.val) :
    View.canon (xL m c t) (ix2 q d) = a0 m c (ix2 r d) := by
  have e : rowT t q = r := Fin.ext hr.symm
  by_cases hq : q.val < 512
  · rw [canon_off 512 _ _ _ q d (by omega), canon_row 0 _ _ _ q d ⟨q.val, hq⟩ (by dsimp only; omega), ld_row 0 _ _ q d ⟨q.val, hq⟩ (by dsimp only; omega), ib0, e]
  · rw [canon_row 512 _ _ _ q d ⟨q.val - 512, by omega⟩ (by dsimp only; omega), ld_row 512 _ _ q d ⟨q.val - 512, by omega⟩ (by dsimp only; omega), ib0, e]

theorem out_at_A (h0 : t.val % 11 = 0) (q : Fin 1024) (d : Fin 2048) (r : Fin 16384) (hr : r.val = 1024 * (t.val / 11) + q.val) :
    (outsAt0 m c t.val t.isLt).1 (ix2 q d) = a0 m c (ix2 r d) + part m c r d 0 := by
  have hs := scrA_ok m c t
  rw [out_A m c t h0]
  by_cases hq : q.val < 512
  · rw [canon_off 512 _ _ _ q d (by omega), canon_row 0 _ _ _ q d ⟨q.val, hq⟩ (by dsimp only; omega), lo_at t hs _ _ d r (by dsimp only; omega), h0]
    exact congrArg (· + part m c r d 0) ((ld_row 0 _ _ q d ⟨q.val, hq⟩ (by dsimp only; omega)).trans (xL_at m c t q d r hr))
  · rw [canon_row 512 _ _ _ q d ⟨q.val - 512, by omega⟩ (by dsimp only; omega), hi_at t hs _ _ d r (by dsimp only; omega), h0]
    refine congrArg (· + part m c r d 0) ((ld_row 512 _ _ q d ⟨q.val - 512, by omega⟩ (by dsimp only; omega)).trans ?_)
    rw [canon_off 0 _ _ _ q d (by omega), xL_at m c t q d r hr]

theorem out_at_B (h0 : ¬t.val % 11 = 0) (q : Fin 1024) (d : Fin 2048) (r : Fin 16384) (hr : r.val = 1024 * (t.val / 11) + q.val) :
    (outsAt0 m c t.val t.isLt).1 (ix2 q d) = oP m c t (ix2 q d) + part m c r d (t.val % 11) := by
  have hs := sP_ok m c t h0
  rw [out_B m c t h0]
  by_cases hq : q.val < 512
  · rw [canon_off 512 _ _ _ q d (by omega), canon_row 0 _ _ _ q d ⟨q.val, hq⟩ (by dsimp only; omega), lo_at t hs _ _ d r (by dsimp only; omega),
      ld_row 0 _ _ q d ⟨q.val, hq⟩ (by dsimp only; omega)]
  · rw [canon_row 512 _ _ _ q d ⟨q.val - 512, by omega⟩ (by dsimp only; omega), hi_at t hs _ _ d r (by dsimp only; omega),
      ld_row 512 _ _ q d ⟨q.val - 512, by omega⟩ (by dsimp only; omega)]

/-- After point `j` of a block of rows: the input and the first `j + 1` parts. -/
theorem out_all : ∀ (n : ℕ) (hn : n < cfg0.N) (q : Fin 1024) (d : Fin 2048) (r : Fin 16384), r.val = 1024 * (n / 11) + q.val →
    (outsAt0 m c n hn).1 (ix2 q d) = a0 m c (ix2 r d) + ∑ j ∈ Finset.range (n % 11 + 1), part m c r d j := by
  intro n
  induction n with
  | zero =>
    intro hn q d r hr
    rw [out_at_A m c ⟨0, hn⟩ rfl q d r hr]
    exact congrArg _ (Finset.sum_range_one _).symm
  | succ n ih =>
    intro hn q d r hr
    by_cases h0 : (n + 1) % 11 = 0
    · rw [out_at_A m c ⟨n + 1, hn⟩ h0 q d r hr, h0, Finset.sum_range_one]
    · have e : (n + 1) / 11 = n / 11 := by omega
      have e' : (n + 1) % 11 = n % 11 + 1 := by omega
      have hi := ih (Nat.lt_of_succ_lt hn) q d r (by omega)
      rw [out_at_B m c ⟨n + 1, hn⟩ h0 q d r hr, e', Finset.sum_range_succ _ (n % 11 + 1), ← add_assoc]
      exact congrArg (· + part m c r d (n % 11 + 1)) hi

theorem parts (r : Fin 16384) (d : Fin 2048) : a0 m c (ix2 r d) + ∑ j ∈ Finset.range 11, part m c r d j
    = yOf (a0 m c) (a1 m c) (a2 m c) (a3 m c) (a4 m c) (a5 m c) (a6 m c) r d := by
  unfold yOf
  rw [sum_blocks, Finset.sum_range]
  refine congrArg _ (Finset.sum_congr rfl fun j _ => ?_)
  unfold part
  rw [dif_pos j.isLt]

theorem tail_at (z : Fin 8) (l : Fin 512) (r : Fin 16384) (hr : r.val = 1024 * (t.val / 11) + (1016 + z.val)) :
    (outsAt0 m c t.val t.isLt).2.1 (ix3 0 z l) = gateO m c r (colT t l) := by
  by_cases h0 : t.val % 11 = 0
  · rw [tail_A m c t h0, pay2_apply, gate_hi t (scrA_ok m c t) _ l r (by dsimp only; omega)]
  · rw [tail_B m c t h0, pay2_apply, gate_hi t (sP_ok m c t h0) _ l r (by dsimp only; omega)]

/-- The first array. -/
theorem G8_apply (r : Fin 16384) (d : Fin 2048) :
    Value.G8 m c (ix2 r d) = yOf (a0 m c) (a1 m c) (a2 m c) (a3 m c) (a4 m c) (a5 m c) (a6 m c) r d := by
  have ep : Value.pt8Of (ix2 r d) = 11 * (r.val / 1024) + 10 := by
    show 11 * (1 * (r.val / 1024 - 0) + 1 * (d.val / 2048 - 0)) + 10 = _
    omega
  have hlt : 11 * (r.val / 1024) + 10 < cfg0.N := lt_of_lt_of_eq (by omega) N_0.symm
  have el : Value.loc8Of (ix2 r d) = ix2 ⟨r.val % 1024, by omega⟩ d := funext fun a => by
    match a with
    | ⟨0, _⟩ => rfl
    | ⟨1, _⟩ => exact Fin.ext (show d.val % 2048 = d.val by omega)
  have key := out_all m c (11 * (r.val / 1024) + 10) hlt ⟨r.val % 1024, by omega⟩ d r (by dsimp only; omega)
  have en : (11 * (r.val / 1024) + 10) % 11 + 1 = 11 := by omega
  rw [en, parts] at key
  unfold Value.G8
  have hp : Value.pt8Of (ix2 r d) < cfg0.N := by rw [ep]; exact hlt
  rw [dif_pos hp, el, ← Value.outsAt0_sweep m c _ hp]
  simp only [ep]
  exact key

/-- The second array. -/
theorem G9_apply (i : Fin 16) (z : Fin 8) (f : Fin 5632) :
    Value.G9 m c (ix3 i z f) = gateO m c ⟨1024 * i.val + (1016 + z.val), by omega⟩ f := by
  have ep : Value.pt9Of (ix3 i z f) = 11 * i.val + f.val / 512 := by
    show 11 * (i.val / 1 - 0) + 11 * (z.val / 8 - 0) + 1 * (f.val / 512 - 0) = _
    omega
  have hlt : 11 * i.val + f.val / 512 < cfg0.N := lt_of_lt_of_eq (by omega) N_0.symm
  have el : Value.loc9Of (ix3 i z f) = ix3 0 z ⟨f.val % 512, by omega⟩ := funext fun a => by
    match a with
    | ⟨0, _⟩ => exact Fin.ext (show i.val % 1 = 0 by omega)
    | ⟨1, _⟩ => exact Fin.ext (show z.val % 8 = z.val by omega)
    | ⟨2, _⟩ => rfl
  have key := tail_at m c ⟨11 * i.val + f.val / 512, hlt⟩ z ⟨f.val % 512, by omega⟩ ⟨1024 * i.val + (1016 + z.val), by omega⟩ (by dsimp only; omega)
  have ef : colT ⟨11 * i.val + f.val / 512, hlt⟩ ⟨f.val % 512, by omega⟩ = f := Fin.ext (by dsimp only; omega)
  rw [ef] at key
  unfold Value.G9
  have hp : Value.pt9Of (ix3 i z f) < cfg0.N := by rw [ep]; exact hlt
  rw [dif_pos hp, el, ← Value.outsAt0_sweep m c _ hp]
  simp only [ep]
  exact key

end Cert.Kernel2Ideal.Ffn

end
-- ==== Proof.FRef.lean ====
/- The reference's feed-forward part is `FSpec.lean`'s. -/
module

public import proofs.«01_k».proof.Proof.FSpec
public import proofs.«01_k».proof.Proof.Gen.Reference2Ideal.Run

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Ffn

variable (x : Vec Ideal S16384x2048 .f32) (g : Vec Ideal S4x2048 .f32) (wg wu : Vec Ideal S4x2048x5632 .f32)
  (cw : Vec Ideal S4x3x5632 .f32) (cb : Vec Ideal S4x5632 .f32) (wd : Vec Ideal S4x5632x2048 .f32)

/-- The arrays of the program, over its arguments: the normed rows, a projection of them, the gates after two rows of zeros, the convolution. -/
def hV : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] g slices_S4x2048_S1x2048_0_0) shapeCasts_S1x2048_S2048)))
def hidV (h : FVec Ideal S16384x2048 .f32) : FVec Ideal S16384x5632 .f32 :=
  Host.dotGeneral (φ₂ := .f32) dot_S16384x2048_S2048x5632_S16384x5632_1_0_0_1_n_n none h (shapeCast _ (extractStridedSlice S1x2048x5632 ![0, 0, 0] wg slices_S4x2048x5632_S1x2048x5632_0_0_0) shapeCasts_S1x2048x5632_S2048x5632)
def padV (h : FVec Ideal S16384x5632 .f32) : FVec Ideal S2x8194x5632 .f32 :=
  concatenate S2x8194x5632 1 [⟨S2x2x5632, (broadcastInDim S2x2x5632 ![] bcast_S_S2x2x5632 (constant (F := Ideal) S_ .f32 0x00000000#32))⟩, ⟨S2x8192x5632, (shapeCast _ h shapeCasts_S16384x5632_S2x8192x5632)⟩] concatenates_S2x2x5632_S2x8192x5632_S2x8194x5632_d1
def convV (p : FVec Ideal S2x8194x5632 .f32) : FVec Ideal S16384x5632 .f32 :=
  shapeCast _ (addf (addf (addf (broadcastInDim S2x8192x5632 ![0, 1, 2] bcast_S1x1x5632_S2x8192x5632_0_1_2 (broadcastInDim S1x1x5632 ![2] bcast_S5632_S1x1x5632_2 (shapeCast _ (extractStridedSlice S1x5632 ![0, 0] cb slices_S4x5632_S1x5632_0_0) shapeCasts_S1x5632_S5632))) (mulf (broadcastInDim S2x8192x5632 ![0, 1, 2] bcast_S1x1x5632_S2x8192x5632_0_1_2 (broadcastInDim S1x1x5632 ![2] bcast_S5632_S1x1x5632_2 (shapeCast _ (extractStridedSlice S1x1x5632 ![0, 0, 0] cw slices_S4x3x5632_S1x1x5632_0_0_0) shapeCasts_S1x1x5632_S5632))) (extractStridedSlice S2x8192x5632 ![0, 0, 0] p slices_S2x8194x5632_S2x8192x5632_0_0_0))) (mulf (broadcastInDim S2x8192x5632 ![0, 1, 2] bcast_S1x1x5632_S2x8192x5632_0_1_2 (broadcastInDim S1x1x5632 ![2] bcast_S5632_S1x1x5632_2 (shapeCast _ (extractStridedSlice S1x1x5632 ![0, 1, 0] cw slices_S4x3x5632_S1x1x5632_0_1_0) shapeCasts_S1x1x5632_S5632))) (extractStridedSlice S2x8192x5632 ![0, 1, 0] p slices_S2x8194x5632_S2x8192x5632_0_1_0))) (mulf (broadcastInDim S2x8192x5632 ![0, 1, 2] bcast_S1x1x5632_S2x8192x5632_0_1_2 (broadcastInDim S1x1x5632 ![2] bcast_S5632_S1x1x5632_2 (shapeCast _ (extractStridedSlice S1x1x5632 ![0, 2, 0] cw slices_S4x3x5632_S1x1x5632_0_2_0) shapeCasts_S1x1x5632_S5632))) (extractStridedSlice S2x8192x5632 ![0, 2, 0] p slices_S2x8194x5632_S2x8192x5632_0_2_0))) shapeCasts_S2x8192x5632_S16384x5632
def yV (c u : FVec Ideal S16384x5632 .f32) : FVec Ideal S16384x2048 .f32 :=
  addf x (Host.dotGeneral (φ₂ := .f32) dot_S16384x5632_S5632x2048_S16384x2048_1_0_0_1_n_n none (mulf (mulf c (Host.divf (broadcastInDim S16384x5632 ![] bcast_S_S16384x5632 (constant S_ .f32 0x3F800000#32)) (addf (broadcastInDim S16384x5632 ![] bcast_S_S16384x5632 (constant S_ .f32 0x3F800000#32)) (Host.exp (Host.negf c))))) u) (shapeCast _ (extractStridedSlice S1x5632x2048 ![0, 0, 0] wd slices_S4x5632x2048_S1x5632x2048_0_0_0) shapeCasts_S1x5632x2048_S5632x2048))
def tailV (h : FVec Ideal S16384x5632 .f32) : FVec Ideal S16x8x5632 .f32 :=
  extractStridedSlice S16x8x5632 ![0, 1016, 0] (shapeCast S16x1024x5632 (shapeCast S2x8192x5632 h shapeCasts_S16384x5632_S2x8192x5632) shapeCasts_S2x8192x5632_S16x1024x5632) slices_S16x1024x5632_S16x8x5632_0_1016_0

theorem hV_apply (r : Fin 16384) (k : Fin 2048) : hV x g (ix2 r k) = hOf x g r k := by
  unfold hV
  pointwise
  rfl

theorem hidV_apply (r : Fin 16384) (f : Fin 5632) : hidV wg (hV x g) (ix2 r f) = gateOf x g wg r f := by
  unfold hidV
  pointwise
  unfold gateOf
  refine Finset.sum_congr rfl fun k _ => ?_
  rw [hV_apply]

/-- The gates of a sequence after two rows of zeros. -/
theorem padV_apply (h : FVec Ideal S16384x5632 .f32) (b : Fin 2) (t : Fin 8194) (f : Fin 5632) :
    padV h (ix3 b t f) = if ht : 2 ≤ t.val then h (ix2 ⟨8192 * b.val + (t.val - 2), by omega⟩ f) else (0 : EReal) := by
  unfold padV
  pointwise
  by_cases ht : 2 ≤ t.val
  · rw [dif_neg (by omega), dif_pos ht]
    exact congrArg (fun r => h (ix2 r f)) (Fin.ext (by dsimp only; omega))
  · rw [dif_pos (by omega), dif_neg ht]

/-- Row `n` before token `r`, read of the gates after two rows of zeros. -/
theorem pad_prev (n : ℕ) (hn : n ≤ 2) (r : Fin 16384) (f : Fin 5632) (b : Fin 2) (t : Fin 8194) (hb : b.val = r.val / 8192)
    (ht : t.val = 2 - n + r.val % 8192) : padV (hidV wg (hV x g)) (ix3 b t f) = prevOf x g wg n r f := by
  rw [padV_apply]
  unfold prevOf
  by_cases h : n ≤ r.val % 8192
  · rw [dif_pos (by omega), if_pos h, hidV_apply]
    exact congrArg (fun r => gateOf x g wg r f) (Fin.ext (by dsimp only; omega))
  · rw [dif_neg (by omega), if_neg h]

theorem conv_apply (r : Fin 16384) (f : Fin 5632) :
    convV cw cb (padV (hidV wg (hV x g))) (ix2 r f) = convOf x g wg cw cb r f := by
  unfold convV
  pointwise
  rw [pad_prev x g wg 2 (le_refl _) r f _ _ rfl (by first | rfl | (dsimp only; omega)), pad_prev x g wg 1 (by omega) r f _ _ rfl (by first | rfl | (dsimp only; omega)),
    pad_prev x g wg 0 (by omega) r f _ _ rfl (by first | rfl | (dsimp only; omega))]
  unfold convOf conv
  congr 2

theorem y_apply (r : Fin 16384) (d : Fin 2048) :
    yV x wd (convV cw cb (padV (hidV wg (hV x g)))) (hidV wu (hV x g)) (ix2 r d) = yOf x g wg wu cw cb wd r d := by
  unfold yV
  pointwise
  unfold yOf actOf act
  congr 1
  refine Finset.sum_congr rfl fun f _ => ?_
  rw [conv_apply, hidV_apply]

theorem tail_apply (i : Fin 16) (z : Fin 8) (f : Fin 5632) :
    tailV (hidV wg (hV x g)) (ix3 i z f) = gateOf x g wg ⟨1024 * i.val + (1016 + z.val), by omega⟩ f := by
  unfold tailV
  pointwise
  rw [← hidV_apply]
  exact congrArg (fun r => hidV wg (hV x g) (ix2 r f)) (Fin.ext (by dsimp only; omega))

theorem res_eq (m : (ℓ : Loc nD τ sig) → Buf (Elt Ideal) ℓ) (c : Dev nD) :
    Value.res_main_v55 m c
      = yV (m (c.tc.loc main_arg0)) (m (c.tc.loc main_arg6))
          (convV (m (c.tc.loc main_arg4)) (m (c.tc.loc main_arg5)) (padV (hidV (m (c.tc.loc main_arg2)) (hV (m (c.tc.loc main_arg0)) (m (c.tc.loc main_arg1))))))
          (hidV (m (c.tc.loc main_arg3)) (hV (m (c.tc.loc main_arg0)) (m (c.tc.loc main_arg1)))) := by
  unfold Value.res_main_v55 yV convV padV hidV hV
  rfl

end Cert.Reference2Ideal.Ffn

end
-- ==== Proof.FFinal.lean ====
/- The two feed-forward programs' results are equal: both are the rows of `FSpec.lean`. -/
module

public import proofs.«01_k».proof.Proof.FKer
public import proofs.«01_k».proof.Proof.FRef

@[expose] public section

set_option maxRecDepth 16384

noncomputable section

open Idealize.ShloMosaic Idealize.ShloMosaic.TcCoe Idealize.SL.Sem

namespace Cert.FFinal

open Cert.Ffn

variable (m : (ℓ : Loc Kernel2Ideal.nD Kernel2Ideal.τ Kernel2Ideal.sig) → Buf (Elt Ideal) ℓ)
  (m' : (ℓ : Loc Reference2Ideal.nD Reference2Ideal.τ Reference2Ideal.sig) → Buf (Elt Ideal) ℓ) (c : Dev Kernel2Ideal.nD)

/-- The two memories agree on the arguments. -/
structure Same : Prop where
  h0 : m' ((c.tc : Thread Reference2Ideal.nD Reference2Ideal.τ).loc Reference2Ideal.main_arg0) = Kernel2Ideal.Ffn.a0 m c
  h1 : m' ((c.tc : Thread Reference2Ideal.nD Reference2Ideal.τ).loc Reference2Ideal.main_arg1) = Kernel2Ideal.Ffn.a1 m c
  h2 : m' ((c.tc : Thread Reference2Ideal.nD Reference2Ideal.τ).loc Reference2Ideal.main_arg2) = Kernel2Ideal.Ffn.a2 m c
  h3 : m' ((c.tc : Thread Reference2Ideal.nD Reference2Ideal.τ).loc Reference2Ideal.main_arg3) = Kernel2Ideal.Ffn.a3 m c
  h4 : m' ((c.tc : Thread Reference2Ideal.nD Reference2Ideal.τ).loc Reference2Ideal.main_arg4) = Kernel2Ideal.Ffn.a4 m c
  h5 : m' ((c.tc : Thread Reference2Ideal.nD Reference2Ideal.τ).loc Reference2Ideal.main_arg5) = Kernel2Ideal.Ffn.a5 m c
  h6 : m' ((c.tc : Thread Reference2Ideal.nD Reference2Ideal.τ).loc Reference2Ideal.main_arg6) = Kernel2Ideal.Ffn.a6 m c

variable {m m' c}

theorem y_eq (H : Same m m' c) : (Reference2Ideal.Value.res_main_v55 m' c : Vec Ideal ⟨2, ![16384, 2048]⟩ .f32) = Kernel2Ideal.Value.G8 m c := by
  refine (Reference2Ideal.Ffn.res_eq m' c).trans ?_
  rw [H.h0, H.h1, H.h2, H.h3, H.h4, H.h5, H.h6]
  funext i
  idx_vars i
  exact (Reference2Ideal.Ffn.y_apply _ _ _ _ _ _ _ i0 i1).trans (Kernel2Ideal.Ffn.G8_apply m c i0 i1).symm

theorem tail_eq (H : Same m m' c) :
    (Reference2Ideal.Ffn.tailV (Reference2Ideal.Ffn.hidV (m' ((c.tc : Thread Reference2Ideal.nD Reference2Ideal.τ).loc Reference2Ideal.main_arg2))
      (Reference2Ideal.Ffn.hV (m' ((c.tc : Thread Reference2Ideal.nD Reference2Ideal.τ).loc Reference2Ideal.main_arg0))
        (m' ((c.tc : Thread Reference2Ideal.nD Reference2Ideal.τ).loc Reference2Ideal.main_arg1)))) : Vec Ideal ⟨3, ![16, 8, 5632]⟩ .f32)
      = Kernel2Ideal.Value.G9 m c := by
  rw [H.h0, H.h1, H.h2]
  funext i
  idx_vars i
  exact (Reference2Ideal.Ffn.tail_apply _ _ _ i0 i1 i2).trans (Kernel2Ideal.Ffn.G9_apply m c i0 i1 i2).symm

end Cert.FFinal

end
-- ==== Proof.CSpec.lean ====
/- The chunked spatial-gating MLP over the extended reals: the scalar form of its result. -/
module

public import Idealize.ShloMosaic.Lib.Pipeline.ValueKit
public import Idealize.ShloMosaic.Lib.IdealHost

@[expose] public section

noncomputable section

open Idealize.ShloMosaic

namespace Cert.Chunk

/-- The activation, in the form with the hyperbolic tangent. -/
def geluOf (x : EReal) : EReal :=
  x * (Ideal.ofBits FTy.f32 1056964608#32 * (1 + Ideal.tanh (Ideal.ofBits FTy.f32 1061962282#32 * (x + Ideal.ofBits FTy.f32 1027024659#32 * (x * x * x)))))

/-- A group's activated values less their mean, and normalised. -/
def devOf (f : Fin 128 → EReal) (k : Fin 128) : EReal := geluOf (f k) - Ideal.div (∑ x : Fin 128, geluOf (f x)) (Ideal.ofBits FTy.f32 1124073472#32)
def normOf (f : Fin 128 → EReal) (k : Fin 128) : EReal :=
  devOf f k * Ideal.rsqrt (Ideal.div (∑ x : Fin 128, devOf f x * devOf f x) (Ideal.ofBits FTy.f32 1124073472#32) + Ideal.ofBits FTy.f32 897988541#32)

/-- The weight of position `j` at position `i`: none of the second chunk at the first. -/
def seenOf (i j : Fin 128) (w : EReal) : EReal := if i.val < 64 ∧ 64 ≤ j.val then 0 else w

variable (u v : (⟨2, ![16384, 512]⟩ : Shape).Idx → EReal) (ws : (⟨4, ![4, 4, 128, 128]⟩ : Shape).Idx → EReal) (b : (⟨3, ![4, 4, 128]⟩ : Shape).Idx → EReal)

/-- Row `r` of block `n`, column `k` of group `g`. -/
def outOf (n : Fin 128) (g : Fin 4) (r k : Fin 128) : EReal :=
  geluOf (u (ix2 ⟨128 * n.val + r.val, by omega⟩ ⟨128 * g.val + k.val, by omega⟩))
    * (∑ j : Fin 128, seenOf r j (ws (ix4 0 g r j)) * normOf (fun x => v (ix2 ⟨128 * n.val + j.val, by omega⟩ ⟨128 * g.val + x.val, by omega⟩)) k + b (ix3 0 g r))

end Cert.Chunk

end
-- ==== Proof.CKer.lean ====
/- The chunked spatial-gating MLP over the extended reals: the kernel's sixteen tiles a grid step. -/
module

public import proofs.«01_k».proof.Proof.CSpec
public import proofs.«01_k».proof.Proof.Gen.Kernel4Ideal.Value
public import Idealize.ShloMosaic.Lib.Pipeline.ValueKit
public import Idealize.ShloMosaic.Lib.Pipeline.CanonAppend
public import Idealize.ShloMosaic.Lib.StableHlo.ReadAt
public import Idealize.ShloMosaic.Lib.IdealHost

@[expose] public section

set_option maxRecDepth 16384

noncomputable section

open Idealize.ShloMosaic Idealize.ShloMosaic.TcCoe Idealize.SL.Sem

namespace Cert.Kernel4Ideal.Chunk

open Cert.Kernel4Ideal Cert.Kernel4Ideal.Gen Cert.Chunk

section Tile

variable {F : FTy → Type} [FloatOps F]

theorem in_tile (n g : Fin 4) : ∀ i, (![128 * n.val, 128 * g.val] : Fin 2 → ℕ) i + S128x128.size i ≤ S512x512.size i := by revert n g; decide
theorem in_w (g : Fin 4) : ∀ i, (![g.val, 0, 0] : Fin 3 → ℕ) i + S1x128x128.size i ≤ S4x128x128.size i := by revert g; decide
theorem in_b (g : Fin 4) : ∀ i, (![g.val, 0, 0] : Fin 3 → ℕ) i + S1x128x1.size i ≤ S4x128x1.size i := by revert g; decide

/-- Block `n` of 128 rows and group `g` of 128 columns; a group's weights and bias. -/
abbrev rT (n g : Fin 4) : Rect S512x512 := Rect.unit (s := S512x512) ![128 * n.val, 128 * g.val] S128x128.size (in_tile n g)
abbrev rW (g : Fin 4) : Rect S4x128x128 := Rect.unit (s := S4x128x128) ![g.val, 0, 0] S1x128x128.size (in_w g)
abbrev rB (g : Fin 4) : Rect S4x128x1 := Rect.unit (s := S4x128x1) ![g.val, 0, 0] S1x128x1.size (in_b g)

/-- A tile of a grid step, from the group's weights and bias and the block's two halves. -/
def tile (w : Vec F S1x128x128 .f32) (b : Vec F S1x128x1 .f32) (v u : Vec F S128x128 .bf16) : FVec F S128x128 .bf16 :=
  k0_pay8 (k0_pay3 w) (k0_pay4 b) (k0_pay5 v) (k0_pay6 v) k0_pay7 u

/-- The 16 tiles stored in a grid step, the last store first. -/
def tiles (T : Fin 4 → Fin 4 → FVec F S128x128 .bf16) : List (View.Piece (Elt F) S512x512 .bf16) :=
  [3, 2, 1, 0].flatMap fun g => [3, 2, 1, 0].map fun n => ⟨rT n g, T n g⟩

theorem out_tiles (x0 x1 : Vec F S512x512 .bf16) (x2 : Vec F S4x128x128 .f32) (x3 : Vec F S4x128x1 .f32) :
    out0_4 x0 x1 x2 x3 = View.canon (tiles fun n g => tile (View.ld x2 (rW g)) (View.ld x3 (rB g)) (View.ld x1 (rT n g)) (View.ld x0 (rT n g))) := rfl

theorem rT_val (n g : Fin 4) (x : S128x128.Idx) (a : Fin S512x512.rank) :
    ((rT n g).emb x a : ℕ) = (![128 * n.val, 128 * g.val] : Fin 2 → ℕ) a + x a :=
  Rect.idx_unit_val (s := S512x512) ![128 * n.val, 128 * g.val] S128x128.size (in_tile n g) x a

theorem mem4 : ∀ h : Fin 4, h ∈ ([3, 2, 1, 0] : List (Fin 4)) := by decide

theorem canon_tiles (T : Fin 4 → Fin 4 → FVec F S128x128 .bf16) (y : S512x512.Idx) (n g : Fin 4) (r e : Fin 128)
    (h0 : (y 0 : ℕ) = 128 * n.val + r.val) (h1 : (y 1 : ℕ) = 128 * g.val + e.val) :
    View.canon (tiles T) y = T n g (ix2 r e) := by
  have hy : (rT n g).emb (ix2 r e) = y := funext fun a => by
    match a with
    | ⟨0, _⟩ => exact Fin.ext ((rT_val n g (ix2 r e) 0).trans h0.symm)
    | ⟨1, _⟩ => exact Fin.ext ((rT_val n g (ix2 r e) 1).trans h1.symm)
  refine View.canon_eq_of_allAt _ _ _ ⟨⟨rT n g, T n g⟩, ?_, by rw [← hy]; exact LoadRect.idx_mem _ _⟩ ?_
  · exact List.mem_flatMap.2 ⟨g, mem4 g, List.mem_map.2 ⟨n, mem4 n, rfl⟩⟩
  · intro p hp x hx
    obtain ⟨g', -, hp⟩ := List.mem_flatMap.1 hp
    obtain ⟨n', -, rfl⟩ := List.mem_map.1 hp
    have e0 : (128 * n'.val + (x 0 : ℕ)) = 128 * n.val + r.val := by
      rw [← h0, ← hx]; exact (rT_val n' g' x 0).symm
    have e1 : (128 * g'.val + (x 1 : ℕ)) = 128 * g.val + e.val := by
      rw [← h1, ← hx]; exact (rT_val n' g' x 1).symm
    have b0 : (x 0 : ℕ) < 128 := (x 0).isLt
    have b1 : (x 1 : ℕ) < 128 := (x 1).isLt
    have := r.isLt; have := e.isLt
    obtain rfl : n' = n := Fin.ext (by omega)
    obtain rfl : g' = g := Fin.ext (by omega)
    refine congrArg (T n' g') (funext fun a => ?_)
    match a with
    | ⟨0, _⟩ => exact Fin.ext (by show (x 0 : ℕ) = r; omega)
    | ⟨1, _⟩ => exact Fin.ext (by show (x 1 : ℕ) = e; omega)

end Tile

/-- The mask lets a row of the first half see the first half only. -/
theorem sge_eq : ∀ r : Fin 128, IntOp.cmpi .sge (BitVec.ofNat 32 r.val) 64#32 = if r.val < 64 then 0#1 else 1#1 := by decide
theorem slt_eq : ∀ r : Fin 128, IntOp.cmpi .slt (BitVec.ofNat 32 r.val) 64#32 = if r.val < 64 then 1#1 else 0#1 := by decide

theorem w_apply (w : Vec Ideal S1x128x128 .f32) (r j : Fin 128) : k0_pay3 w (ix2 r j) = seenOf r j (w (ix3 0 r j)) := by
  unfold k0_pay3 k0_pay2
  pointwise
  rw [sge_eq, slt_eq]
  unfold seenOf
  by_cases h : r.val < 64 <;> by_cases h' : j.val < 64 <;> simp [h, h', Scalar.select, IntOp.ori]

theorem dev_apply (v : Vec Ideal S128x128 .bf16) (r k : Fin 128) : k0_pay5 v (ix2 r k) = devOf (fun x => v (ix2 r x)) k := by
  unfold k0_pay5
  pointwise
  rfl

theorem tile_apply (w : Vec Ideal S1x128x128 .f32) (b : Vec Ideal S1x128x1 .f32) (v u : Vec Ideal S128x128 .bf16) (r k : Fin 128) :
    tile w b v u (ix2 r k)
      = geluOf (u (ix2 r k)) * (∑ j : Fin 128, seenOf r j (w (ix3 0 r j)) * normOf (fun x => v (ix2 j x)) k + b (ix3 0 r 0)) := by
  have hq : ∀ j : Fin 128, k0_pay7 (F := Ideal) (ix2 j 0) = Ideal.ofBits FTy.f32 1124073472#32 := fun j => by
    unfold k0_pay7
    pointwise
  have hp : ∀ j : Fin 128, k0_pay6 v (ix2 j 0) = ∑ x : Fin 128, devOf (fun x => v (ix2 j x)) x * devOf (fun x => v (ix2 j x)) x := fun j => by
    unfold k0_pay6
    pointwise
    simp only [dev_apply]
  have hb : k0_pay4 b (ix2 r 0) = b (ix3 0 r 0) := by
    unfold k0_pay4
    pointwise
  unfold tile k0_pay8
  pointwise
  simp only [hq, hp, hb, w_apply, dev_apply]
  rfl

variable (m : (ℓ : Loc nD τ sig) → Buf (Elt Ideal) ℓ) (c : Dev nD)

/-- The arguments. -/
abbrev a0 : Vec Ideal S16384x512 .f32 := m ((c : Thread nD τ).loc main_arg0)
abbrev a1 : Vec Ideal S16384x512 .f32 := m ((c : Thread nD τ).loc main_arg1)
abbrev a2 : Vec Ideal S4x4x128x128 .f32 := m ((c : Thread nD τ).loc main_arg2)
abbrev a3 : Vec Ideal S4x4x128 .f32 := m ((c : Thread nD τ).loc main_arg3)

theorem v2_lo (r : Fin 16384) (k : Fin 512) : (V m c main_v2 : Vec Ideal S16384x4096 .bf16) (ix2 r ⟨k.val, by omega⟩) = a0 m c (ix2 r k) := by
  unfold V
  after_reads_at
  exact congrFun (StableHlo.upto_unwritten [main_cst, main_v0] rfl (by decide) _) _
theorem v2_hi (r : Fin 16384) (k : Fin 512) : (V m c main_v2 : Vec Ideal S16384x4096 .bf16) (ix2 r ⟨512 + k.val, by omega⟩) = a1 m c (ix2 r k) := by
  unfold V
  after_reads_at
  exact congrFun (StableHlo.upto_unwritten [main_cst, main_v0] rfl (by decide) _) _
theorem v4_apply (g : Fin 4) (i j : Fin 128) : (V m c main_v4 : Vec Ideal S4x128x128 .f32) (ix3 g i j) = a2 m c (ix4 0 g i j) := by
  unfold V
  after_reads_at
theorem v7_apply (g : Fin 4) (i : Fin 128) (z : Fin 1) : (V m c main_v7 : Vec Ideal S4x128x1 .f32) (ix3 g i z) = a3 m c (ix3 0 g i) := by
  unfold V
  after_reads_at

theorem idx0 : ∀ t : Fin cfg0.N, win0_0.index t (0 : Fin 2) = t.val ∧ win0_0.index t (1 : Fin 2) = 0 := by decide
theorem idx1 : ∀ t : Fin cfg0.N, win0_1.index t (0 : Fin 2) = t.val ∧ win0_1.index t (1 : Fin 2) = 1 := by decide
theorem idx2 : ∀ t : Fin cfg0.N, win0_2.index t (0 : Fin 3) = 0 ∧ win0_2.index t (1 : Fin 3) = 0 ∧ win0_2.index t (2 : Fin 3) = 0 := by decide
theorem idx3 : ∀ t : Fin cfg0.N, win0_3.index t (0 : Fin 3) = 0 ∧ win0_3.index t (1 : Fin 3) = 0 ∧ win0_3.index t (2 : Fin 3) = 0 := by decide
theorem idx4 : ∀ t : Fin cfg0.N, win0_4.index t (0 : Fin 2) = t.val ∧ win0_4.index t (1 : Fin 2) = 0 := by decide

variable (t : Fin cfg0.N)

theorem lt32 : t.val < 32 := lt_of_lt_of_eq t.isLt N_0
abbrev rowT (r : Fin 512) : Fin 16384 := ⟨512 * t.val + r.val, by have := lt32 t; omega⟩

theorem ib0 (r k : Fin 512) : (iblk m c 0 t : Vec Ideal S512x512 .bf16) (ix2 r k) = a0 m c (ix2 (rowT t r) k) := by
  have := lt32 t
  rw [← v2_lo]
  unfold iblk
  blk_ext [idx0 t]
theorem ib1 (r k : Fin 512) : (iblk m c 1 t : Vec Ideal S512x512 .bf16) (ix2 r k) = a1 m c (ix2 (rowT t r) k) := by
  have := lt32 t
  rw [← v2_hi]
  unfold iblk
  blk_ext [idx1 t]
theorem ib2 (g : Fin 4) (i j : Fin 128) : (iblk m c 2 t : Vec Ideal S4x128x128 .f32) (ix3 g i j) = a2 m c (ix4 0 g i j) := by
  rw [← v4_apply]
  unfold iblk
  blk_ext [idx2 t]
theorem ib3 (g : Fin 4) (i : Fin 128) (z : Fin 1) : (iblk m c 3 t : Vec Ideal S4x128x1 .f32) (ix3 g i z) = a3 m c (ix3 0 g i) := by
  rw [← v7_apply m c g i z]
  unfold iblk
  blk_ext [idx3 t]

/-- The blocks' rows, as an array. -/
def outV : Vec Ideal S16384x512 .bf16 := fun i =>
  outOf (a0 m c) (a1 m c) (a2 m c) (a3 m c) ⟨(i 0).val / 128, by have : (i 0).val < 16384 := (i 0).isLt; omega⟩ ⟨(i 1).val / 128, by have : (i 1).val < 512 := (i 1).isLt; omega⟩
    ⟨(i 0).val % 128, by omega⟩ ⟨(i 1).val % 128, by omega⟩

theorem ld_tile (x : Vec Ideal S512x512 .bf16) (n g : Fin 4) (r k : Fin 128) :
    View.ld x (rT n g) (ix2 r k) = x (ix2 ⟨128 * n.val + r.val, by omega⟩ ⟨128 * g.val + k.val, by omega⟩) := by
  pointwise

theorem step_apply (y0 y1 : Fin 512) :
    out0_4 (iblk m c 0 t) (iblk m c 1 t) (iblk m c 2 t) (iblk m c 3 t) (ix2 y0 y1) = outV m c (ix2 (rowT t y0) y1) := by
  have := lt32 t
  rw [out_tiles, canon_tiles _ _ ⟨y0.val / 128, by omega⟩ ⟨y1.val / 128, by omega⟩ ⟨y0.val % 128, by omega⟩ ⟨y1.val % 128, by omega⟩
    (by dsimp only [ix2_0]; omega) (by dsimp only [ix2_1]; omega), tile_apply]
  have ew : ∀ (g : Fin 4) (i j : Fin 128), View.ld (iblk m c 2 t) (rW g) (ix3 0 i j) = a2 m c (ix4 0 g i j) := fun g i j => by
    rw [← ib2 m c t]; pointwise
  have eb : ∀ (g : Fin 4) (i : Fin 128), View.ld (iblk m c 3 t) (rB g) (ix3 0 i 0) = a3 m c (ix3 0 g i) := fun g i => by
    rw [← ib3 m c t g i 0]; pointwise
  have e0 : ∀ (n g : Fin 4) (r k : Fin 128), View.ld (iblk m c 0 t) (rT n g) (ix2 r k)
      = a0 m c (ix2 (rowT t ⟨128 * n.val + r.val, by omega⟩) ⟨128 * g.val + k.val, by omega⟩) := fun n g r k => (ld_tile _ n g r k).trans (ib0 m c t _ _)
  have e1 : ∀ (n g : Fin 4) (r k : Fin 128), View.ld (iblk m c 1 t) (rT n g) (ix2 r k)
      = a1 m c (ix2 (rowT t ⟨128 * n.val + r.val, by omega⟩) ⟨128 * g.val + k.val, by omega⟩) := fun n g r k => (ld_tile _ n g r k).trans (ib1 m c t _ _)
  simp only [e0, e1, ew, eb]
  unfold outV outOf
  have hr : ∀ j : ℕ, 512 * t.val + (128 * (y0.val / 128) + j) = 128 * ((512 * t.val + y0.val) / 128) + j := fun j => by omega
  have hm : (512 * t.val + y0.val) % 128 = y0.val % 128 := by omega
  simp only [rowT, hr, ix2_0, ix2_1, hm]

theorem final_eq : (dats m 0 c).arrAt 4 cfg0.N = outV m c := by
  refine (dats m 0 c).arrAt_eq_of_covers 4 _ (by decide +kernel) fun t hf y => ?_
  have := lt32 t
  blk_simp
  rw [after0_4]
  idx_vars y
  refine (step_apply m c t y0 y1).trans ?_
  blk_ext [idx4 t]

theorem run (g : Dev nD → PrngReg) : θ_run defs (onTc (τ := τ) (main (F := Ideal))) ⟨m, fun _ => 0, g⟩ fun r => ∀ c : Dev nD,
      r.2.mem ((c : Thread nD τ).loc main_v8) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final_eq m c), (h c).2⟩) (Value.run_blocks m g)

end Cert.Kernel4Ideal.Chunk

end
-- ==== Proof.CRef.lean ====
/- The reference of the chunked spatial-gating MLP, entry by entry. -/
module

public import proofs.«01_k».proof.Proof.CSpec
public import proofs.«01_k».proof.Proof.Gen.Reference4Ideal.Run
public import Idealize.ShloMosaic.Lib.IdealHost

@[expose] public section

set_option maxRecDepth 16384

noncomputable section

open Idealize.ShloMosaic Idealize.ShloMosaic.TcCoe Idealize.SL.Sem

namespace Cert.Reference4Ideal.Chunk

open Cert.Reference4Ideal Cert.Reference4Ideal.Gen Cert.Chunk

variable (a u v : Vec Ideal S16384x512 .f32) (ws : Vec Ideal S4x4x128x128 .f32) (bs : Vec Ideal S4x4x128 .f32)

/-- The reference's lines, a few at a time: the activation, less the mean, normalised. -/
def geluV : FVec Ideal S2x8192x4x128 .f32 :=
  mulf (shapeCast _ a shapeCasts_S16384x512_S2x8192x4x128) (mulf (broadcastInDim S2x8192x4x128 ![] bcast_S_S2x8192x4x128 (constant S_ .f32 0x3F000000#32)) (addf (broadcastInDim S2x8192x4x128 ![] bcast_S_S2x8192x4x128 (constant S_ .f32 0x3F800000#32)) (Host.tanh (mulf (broadcastInDim S2x8192x4x128 ![] bcast_S_S2x8192x4x128 (constant S_ .f32 0x3F4C422A#32)) (addf (shapeCast _ a shapeCasts_S16384x512_S2x8192x4x128) (mulf (broadcastInDim S2x8192x4x128 ![] bcast_S_S2x8192x4x128 (constant S_ .f32 0x3D372713#32)) (mulf (mulf (shapeCast _ a shapeCasts_S16384x512_S2x8192x4x128) (shapeCast _ a shapeCasts_S16384x512_S2x8192x4x128)) (shapeCast _ a shapeCasts_S16384x512_S2x8192x4x128))))))))
def devV (g : FVec Ideal S2x8192x4x128 .f32) : FVec Ideal S2x8192x4x128 .f32 :=
  subf g (broadcastInDim S2x8192x4x128 ![0, 1, 2, 3] bcast_S2x8192x4x1_S2x8192x4x128_0_1_2_3 (Host.divf (broadcastInDim S2x8192x4x1 ![0, 1, 2] bcast_S2x8192x4_S2x8192x4x1_0_1_2 (Host.reduceAdd g (constant S_ .f32 0x00000000#32) reducesTo_S2x8192x4x128_S2x8192x4_d3 h_S_)) (broadcastInDim S2x8192x4x1 ![] bcast_S_S2x8192x4x1 (constant S_ .f32 0x43000000#32))))
def normV (d : FVec Ideal S2x8192x4x128 .f32) : FVec Ideal S2x8192x4x128 .f32 :=
  mulf d (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf d d) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))
/-- A position's chunk, along either axis; the weights under the mask; the gates. -/
def chunkJ : IVec S1x128 32 :=
  select (andi (cmpi .ne (signi (broadcastInDim S1x128 ![1] bcast_S128_S1x128_1 (iotaInDim S128 32 0))) (broadcastInDim S1x128 ![] bcast_S_S1x128 (signi (id (constantI S_ 32 64#32))))) (cmpi .ne (Host.remsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 0#32)))) (subi (Host.divsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 1#32))) (Host.divsi (broadcastInDim S1x128 ![1] bcast_S128_S1x128_1 (iotaInDim S128 32 0)) (broadcastInDim S1x128 ![] bcast_S_S1x128 (id (constantI S_ 32 64#32))))
def chunkI : IVec S128x1 32 :=
  select (andi (cmpi .ne (signi (broadcastInDim S128x1 ![0] bcast_S128_S128x1_0 (iotaInDim S128 32 0))) (broadcastInDim S128x1 ![] bcast_S_S128x1 (signi (id (constantI S_ 32 64#32))))) (cmpi .ne (Host.remsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 0#32)))) (subi (Host.divsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 1#32))) (Host.divsi (broadcastInDim S128x1 ![0] bcast_S128_S128x1_0 (iotaInDim S128 32 0)) (broadcastInDim S128x1 ![] bcast_S_S128x1 (id (constantI S_ 32 64#32))))
def seenV : FVec Ideal S4x128x128 .f32 :=
  select (broadcastInDim S4x128x128 ![1, 2] bcast_S128x128_S4x128x128_1_2 (cmpi .sle (broadcastInDim S128x128 ![0, 1] bcast_S1x128_S128x128_0_1 chunkJ) (broadcastInDim S128x128 ![0, 1] bcast_S128x1_S128x128_0_1 chunkI))) (shapeCast _ (extractStridedSlice S1x4x128x128 ![0, 0, 0, 0] ws slices_S4x4x128x128_S1x4x128x128_0_0_0_0) shapeCasts_S1x4x128x128_S4x128x128) (broadcastInDim S4x128x128 ![] bcast_S_S4x128x128 (id (constant S_ .f32 0x00000000#32)))
def gateV (n : FVec Ideal S2x8192x4x128 .f32) (w : FVec Ideal S4x128x128 .f32) : FVec Ideal S2x8192x4x128 .f32 :=
  shapeCast _ (addf (transpose S2x64x128x4x128 [1, 2, 4, 0, 3] (Host.dotGeneral dot_S2x64x128x4x128_S4x128x128_S4x2x64x128x128_2_2_014_1_3_0 none (shapeCast _ n shapeCasts_S2x8192x4x128_S2x64x128x4x128) w) transposes_S4x2x64x128x128_S2x64x128x4x128_1_2_4_0_3) (broadcastInDim S2x64x128x4x128 ![0, 1, 2, 3, 4] bcast_S1x1x128x4x1_S2x64x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] (shapeCast _ (extractStridedSlice S1x4x128 ![0, 0, 0] bs slices_S4x4x128_S1x4x128_0_0_0) shapeCasts_S1x4x128_S4x128) transposes_S4x128_S128x4_1_0))))) shapeCasts_S2x64x128x4x128_S2x8192x4x128
def resV (g s : FVec Ideal S2x8192x4x128 .f32) : FVec Ideal S16384x512 .bf16 :=
  shapeCast _ (truncf .bf16 (mulf g s) bitsLt_bf16_f32) shapeCasts_S2x8192x4x128_S16384x512

abbrev rowB (b : Fin 2) (t : Fin 8192) : Fin 16384 := ⟨b.val * 8192 + t.val, by omega⟩
abbrev colG (g : Fin 4) (k : Fin 128) : Fin 512 := ⟨g.val * 128 + k.val, by omega⟩

theorem gelu_apply (b : Fin 2) (t : Fin 8192) (g : Fin 4) (k : Fin 128) : geluV a (ix4 b t g k) = geluOf (a (ix2 (rowB b t) (colG g k))) := by
  unfold geluV
  pointwise
  rfl

theorem dev_apply (b : Fin 2) (t : Fin 8192) (g : Fin 4) (k : Fin 128) :
    devV (geluV a) (ix4 b t g k) = devOf (fun x => a (ix2 (rowB b t) (colG g x))) k := by
  unfold devV
  pointwise
  simp only [gelu_apply]
  rfl

theorem norm_apply (b : Fin 2) (t : Fin 8192) (g : Fin 4) (k : Fin 128) :
    normV (devV (geluV a)) (ix4 b t g k) = normOf (fun x => a (ix2 (rowB b t) (colG g x))) k := by
  unfold normV
  pointwise
  simp only [dev_apply]
  rfl

theorem chunkJ_apply (j : Fin 128) : chunkJ (ix2 0 j) = if j.val < 64 then 0#32 else 1#32 := by
  unfold chunkJ
  pointwise
  revert j
  decide
theorem chunkI_apply (i : Fin 128) : chunkI (ix2 i 0) = if i.val < 64 then 0#32 else 1#32 := by
  unfold chunkI
  pointwise
  revert i
  decide

theorem seen_apply (g : Fin 4) (i j : Fin 128) : seenV ws (ix3 g i j) = seenOf i j (ws (ix4 0 g i j)) := by
  unfold seenV
  pointwise
  rw [chunkI_apply, chunkJ_apply]
  have hz : (id (constant S_ .f32 0x00000000#32) : FVec Ideal S_ .f32) ix0 = (0 : EReal) := by
    show (constant S_ .f32 0x00000000#32 : FVec Ideal S_ .f32) ix0 = (0 : EReal)
    pointwise
  refine (congrArg (Scalar.select _ _) hz).trans ?_
  have h00 : IntOp.cmpi .sle 0#32 0#32 = 1#1 := by decide
  have h01 : IntOp.cmpi .sle 0#32 1#32 = 1#1 := by decide
  have h10 : IntOp.cmpi .sle 1#32 0#32 = 0#1 := by decide
  have h11 : IntOp.cmpi .sle 1#32 1#32 = 1#1 := by decide
  unfold seenOf
  by_cases h : i.val < 64 <;> by_cases h' : j.val < 64 <;> simp [h, h', Scalar.select, h00, h01, h10, h11]
  all_goals intro h2; omega

theorem gate_apply (n : FVec Ideal S2x8192x4x128 .f32) (w : FVec Ideal S4x128x128 .f32) (b : Fin 2) (t : Fin 8192) (g : Fin 4) (k : Fin 128) :
    gateV bs n w (ix4 b t g k) = ∑ j : Fin 128, n (ix4 b ⟨t.val / 128 * 128 + j.val, by omega⟩ g k) * w (ix3 g ⟨t.val % 128, by omega⟩ j)
      + bs (ix3 0 g ⟨t.val % 128, by omega⟩) := by
  unfold gateV
  pointwise

theorem res_apply (r : Fin 16384) (k : Fin 512) :
    resV (geluV u) (gateV bs (normV (devV (geluV v))) (seenV ws)) (ix2 r k)
      = outOf u v ws bs ⟨r.val / 128, by omega⟩ ⟨k.val / 128, by omega⟩ ⟨r.val % 128, by omega⟩ ⟨k.val % 128, by omega⟩ := by
  unfold resV
  pointwise
  rw [gelu_apply, gate_apply]
  simp only [norm_apply, seen_apply]
  unfold outOf
  have h1 : r.val / 8192 * 8192 + r.val % 8192 = 128 * (r.val / 128) + r.val % 128 := by omega
  have h2 : ∀ j : ℕ, r.val / 8192 * 8192 + (r.val % 8192 / 128 * 128 + j) = 128 * (r.val / 128) + j := fun j => by omega
  have h3 : r.val % 8192 % 128 = r.val % 128 := by omega
  have h4 : ∀ x : ℕ, k.val / 128 * 128 + x = 128 * (k.val / 128) + x := fun x => by omega
  simp only [rowB, colG, h1, h2, h3, h4]
  congr 2
  exact Finset.sum_congr rfl fun j _ => mul_comm _ _

theorem res_eq (m : (ℓ : Loc nD τ sig) → Buf (Elt Ideal) ℓ) (c : Dev nD) :
    Value.res_main_v70 m c = resV (geluV (m (c.tc.loc main_arg0))) (gateV (m (c.tc.loc main_arg3)) (normV (devV (geluV (m (c.tc.loc main_arg1))))) (seenV (m (c.tc.loc main_arg2)))) := by
  unfold Value.res_main_v70 resV gateV seenV chunkJ chunkI normV devV geluV
  rfl

end Cert.Reference4Ideal.Chunk

end
-- ==== Proof.OSpec.lean ====
/- The output projection over the extended reals: the input and the three mixers' outputs, joined, times the weights. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.StableHlo.ReadAt
public import Idealize.ShloMosaic.Lib.IdealHost

@[expose] public section

set_option maxRecDepth 16384

noncomputable section

open Idealize.ShloMosaic Idealize.ShloMosaic.TcCoe Idealize.SL.Sem

namespace Cert.OutProj

section Args

variable (x : (⟨2, ![16384, 2048]⟩ : Shape).Idx → EReal) (a b : (⟨2, ![16384, 512]⟩ : Shape).Idx → EReal)
  (d : (⟨2, ![16384, 1024]⟩ : Shape).Idx → EReal) (w : (⟨3, ![4, 2048, 2048]⟩ : Shape).Idx → EReal)

/-- Column `k` of the joined rows, and a row's projection added to the input. -/
def mixOf (r : Fin 16384) (k : Fin 2048) : EReal :=
  if h : k.val < 512 then a (ix2 r ⟨k.val, h⟩) else if h' : k.val - 512 < 512 then b (ix2 r ⟨k.val - 512, h'⟩)
    else d (ix2 r ⟨k.val - 512 - 512, by omega⟩)
def outOf (r : Fin 16384) (n : Fin 2048) : EReal := x (ix2 r n) + ∑ k : Fin 2048, mixOf a b d r k * w (ix3 0 k n)

/-- A sum over the joined columns is the sum of the three parts'. -/
theorem sum_three (f : Fin 2048 → EReal) : ∑ k : Fin 2048, f k
    = ∑ k : Fin 512, f ⟨k.val, by omega⟩ + ∑ k : Fin 512, f ⟨512 + k.val, by omega⟩ + ∑ k : Fin 1024, f ⟨1024 + k.val, by omega⟩ := by
  have e1 : ∑ k : Fin (1024 + 1024), f k = _ := Fin.sum_univ_add (a := 1024) (b := 1024) f
  have e2 : ∑ k : Fin (512 + 512), f ⟨k.val, by omega⟩ = _ := Fin.sum_univ_add (a := 512) (b := 512) fun k => f ⟨k.val, by omega⟩
  refine e1.trans ?_
  exact congrArg (· + _) e2

theorem outOf_three (r : Fin 16384) (n : Fin 2048) : outOf x a b d w r n
    = x (ix2 r n) + ∑ k : Fin 512, a (ix2 r k) * w (ix3 0 ⟨k.val, by omega⟩ n) + ∑ k : Fin 512, b (ix2 r k) * w (ix3 0 ⟨512 + k.val, by omega⟩ n)
      + ∑ k : Fin 1024, d (ix2 r k) * w (ix3 0 ⟨1024 + k.val, by omega⟩ n) := by
  unfold outOf
  rw [sum_three, ← add_assoc, ← add_assoc]
  have h1 : ∀ k : Fin 512, mixOf a b d r ⟨k.val, by omega⟩ = a (ix2 r k) := fun k => by
    unfold mixOf
    rw [dif_pos k.isLt]
  have h2 : ∀ k : Fin 512, mixOf a b d r ⟨512 + k.val, by omega⟩ = b (ix2 r k) := fun k => by
    unfold mixOf
    rw [dif_neg (by dsimp only; omega), dif_pos (by dsimp only; omega)]
    exact congrArg (fun k => b (ix2 r k)) (Fin.ext (by dsimp only; omega))
  have h3 : ∀ k : Fin 1024, mixOf a b d r ⟨1024 + k.val, by omega⟩ = d (ix2 r k) := fun k => by
    unfold mixOf
    rw [dif_neg (by dsimp only; omega), dif_neg (by dsimp only; omega)]
    exact congrArg (fun k => d (ix2 r k)) (Fin.ext (by dsimp only; omega))
  simp only [h1, h2, h3]

end Args

end Cert.OutProj

namespace Cert.Reference3Ideal.OutProj

open Cert.Reference3Ideal Cert.Reference3Ideal.Gen Cert.OutProj

variable (x : Vec Ideal S16384x2048 .f32) (a b : Vec Ideal S16384x512 .bf16) (d : Vec Ideal S16384x1024 .bf16) (w : Vec Ideal S4x2048x2048 .f32)

/-- The reference's joined rows, and its result. -/
def mixV : FVec Ideal S16384x2048 .f32 :=
  concatenate S16384x2048 1 [⟨S16384x512, (extf .f32 a bitsLt_bf16_f32 : FVec Ideal S16384x512 .f32)⟩, ⟨S16384x512, (extf .f32 b bitsLt_bf16_f32 : FVec Ideal S16384x512 .f32)⟩, ⟨S16384x1024, (extf .f32 d bitsLt_bf16_f32 : FVec Ideal S16384x1024 .f32)⟩] concatenates_S16384x512_S16384x512_S16384x1024_S16384x2048_d1
def resV : FVec Ideal S16384x2048 .f32 :=
  addf x (Host.dotGeneral (φ₂ := .f32) dot_S16384x2048_S2048x2048_S16384x2048_1_0_0_1_n_n none (mixV a b d) (shapeCast _ (extractStridedSlice S1x2048x2048 ![0, 0, 0] w slices_S4x2048x2048_S1x2048x2048_0_0_0) shapeCasts_S1x2048x2048_S2048x2048))

theorem mixV_apply (r : Fin 16384) (k : Fin 2048) : mixV a b d (ix2 r k) = mixOf a b d r k := by
  unfold mixV
  pointwise
  rfl

theorem resV_apply (r : Fin 16384) (n : Fin 2048) : resV x a b d w (ix2 r n) = outOf x a b d w r n := by
  unfold resV
  pointwise
  unfold outOf
  refine congrArg _ (Finset.sum_congr rfl fun k _ => ?_)
  rw [mixV_apply]

end Cert.Reference3Ideal.OutProj

namespace Cert.Kernel3Ideal.OutProj

open Cert.Kernel3Ideal Cert.Kernel3Ideal.Gen Cert.OutProj
variable (m : (ℓ : Loc nD τ sig) → Buf (Elt Ideal) ℓ) (c : Dev nD)

/-- The arguments. -/
abbrev a0 : Vec Ideal S16384x2048 .f32 := m ((c : Thread nD τ).loc main_arg0)
abbrev a1 : Vec Ideal S16384x512 .bf16 := m ((c : Thread nD τ).loc main_arg1)
abbrev a2 : Vec Ideal S16384x512 .bf16 := m ((c : Thread nD τ).loc main_arg2)
abbrev a3 : Vec Ideal S16384x1024 .bf16 := m ((c : Thread nD τ).loc main_arg3)
abbrev a4 : Vec Ideal S4x2048x2048 .f32 := m ((c : Thread nD τ).loc main_arg4)

theorem v0_apply (z : Fin 4) (k n : Fin 2048) : (V m c main_v0 : Vec Ideal S4x2048x2048 .bf16) (ix3 z k n) = a4 m c (ix3 z k n) := by
  unfold V
  after_reads_at
theorem w0_apply (r : Fin 16384) (k : Fin 2048) : (V m c main_arg0 : Vec Ideal S16384x2048 .f32) (ix2 r k) = a0 m c (ix2 r k) := congrFun (V_main_arg0 m c) _
theorem w1_apply (r : Fin 16384) (k : Fin 512) : (V m c main_arg1 : Vec Ideal S16384x512 .bf16) (ix2 r k) = a1 m c (ix2 r k) := congrFun (V_main_arg1 m c) _
theorem w2_apply (r : Fin 16384) (k : Fin 512) : (V m c main_arg2 : Vec Ideal S16384x512 .bf16) (ix2 r k) = a2 m c (ix2 r k) := congrFun (V_main_arg2 m c) _
theorem w3_apply (r : Fin 16384) (k : Fin 1024) : (V m c main_arg3 : Vec Ideal S16384x1024 .bf16) (ix2 r k) = a3 m c (ix2 r k) := congrFun (V_main_arg3 m c) _

theorem idx0 : ∀ t : Fin cfg0.N, win0_0.index t (0 : Fin 2) = t.val ∧ win0_0.index t (1 : Fin 2) = 0 := by decide
theorem idx1 : ∀ t : Fin cfg0.N, win0_1.index t (0 : Fin 2) = t.val ∧ win0_1.index t (1 : Fin 2) = 0 := by decide
theorem idx2 : ∀ t : Fin cfg0.N, win0_2.index t (0 : Fin 2) = t.val ∧ win0_2.index t (1 : Fin 2) = 0 := by decide
theorem idx3 : ∀ t : Fin cfg0.N, win0_3.index t (0 : Fin 2) = t.val ∧ win0_3.index t (1 : Fin 2) = 0 := by decide
theorem idx4 : ∀ t : Fin cfg0.N, win0_4.index t (0 : Fin 3) = 0 ∧ win0_4.index t (1 : Fin 3) = 0 ∧ win0_4.index t (2 : Fin 3) = 0 := by decide
theorem idx5 : ∀ t : Fin cfg0.N, win0_5.index t (0 : Fin 2) = t.val ∧ win0_5.index t (1 : Fin 2) = 0 := by decide

variable (t : Fin cfg0.N)

theorem lt32 : t.val < 32 := lt_of_lt_of_eq t.isLt N_0
abbrev rowT (r : Fin 512) : Fin 16384 := ⟨512 * t.val + r.val, by have := lt32 t; omega⟩

theorem ib0 (r : Fin 512) (k : Fin 2048) : (iblk m c 0 t : Vec Ideal S512x2048 .f32) (ix2 r k) = a0 m c (ix2 (rowT t r) k) := by
  have := lt32 t
  rw [← w0_apply]
  unfold iblk
  blk_ext [idx0 t]
theorem ib1 (r k : Fin 512) : (iblk m c 1 t : Vec Ideal S512x512 .bf16) (ix2 r k) = a1 m c (ix2 (rowT t r) k) := by
  have := lt32 t
  rw [← w1_apply]
  unfold iblk
  blk_ext [idx1 t]
theorem ib2 (r k : Fin 512) : (iblk m c 2 t : Vec Ideal S512x512 .bf16) (ix2 r k) = a2 m c (ix2 (rowT t r) k) := by
  have := lt32 t
  rw [← w2_apply]
  unfold iblk
  blk_ext [idx2 t]
theorem ib3 (r : Fin 512) (k : Fin 1024) : (iblk m c 3 t : Vec Ideal S512x1024 .bf16) (ix2 r k) = a3 m c (ix2 (rowT t r) k) := by
  have := lt32 t
  rw [← w3_apply]
  unfold iblk
  blk_ext [idx3 t]
theorem ib4 (z : Fin 1) (k n : Fin 2048) : (iblk m c 4 t : Vec Ideal S1x2048x2048 .bf16) (ix3 z k n) = a4 m c (ix3 0 k n) := by
  rw [← v0_apply]
  unfold iblk
  blk_ext [idx4 t]

/-- What a grid step stores, entry by entry. -/
theorem pay_apply (x : Vec Ideal S512x2048 .f32) (a : Vec Ideal S512x512 .bf16) (wa : Vec Ideal S1x512x2048 .bf16) (b : Vec Ideal S512x512 .bf16)
    (wb : Vec Ideal S1x512x2048 .bf16) (d : Vec Ideal S512x1024 .bf16) (wd : Vec Ideal S1x1024x2048 .bf16) (r : Fin 512) (n : Fin 2048) :
    k0_pay1 x a wa b wb d wd (ix2 r n) = x (ix2 r n) + ∑ k : Fin 512, a (ix2 r k) * wa (ix3 0 k n) + ∑ k : Fin 512, b (ix2 r k) * wb (ix3 0 k n)
      + ∑ k : Fin 1024, d (ix2 r k) * wd (ix3 0 k n) := by
  unfold k0_pay1
  pointwise

/-- The rows of `outOf`, as an array. -/
def outV : Vec Ideal S16384x2048 .f32 := fun i => outOf (a0 m c) (a1 m c) (a2 m c) (a3 m c) (a4 m c) (i 0) (i 1)

theorem step_apply (r : Fin 512) (n : Fin 2048) :
    out0_5 (iblk m c 0 t) (iblk m c 1 t) (iblk m c 2 t) (iblk m c 3 t) (iblk m c 4 t) (ix2 r n)
      = outOf (a0 m c) (a1 m c) (a2 m c) (a3 m c) (a4 m c) (rowT t r) n := by
  frame_out
  refine (pay_apply _ _ _ _ _ _ _ r n).trans ?_
  rw [outOf_three, ib0]
  have e1 : ∀ k : Fin 512, View.ld (iblk m c 4 t) r0_2 (ix3 0 k n) = a4 m c (ix3 0 ⟨k.val, by omega⟩ n) := fun k => by
    rw [← ib4 m c t 0]; pointwise
  have e2 : ∀ k : Fin 512, View.ld (iblk m c 4 t) r0_3 (ix3 0 k n) = a4 m c (ix3 0 ⟨512 + k.val, by omega⟩ n) := fun k => by
    rw [← ib4 m c t 0]; pointwise
  have e3 : ∀ k : Fin 1024, View.ld (iblk m c 4 t) r0_5 (ix3 0 k n) = a4 m c (ix3 0 ⟨1024 + k.val, by omega⟩ n) := fun k => by
    rw [← ib4 m c t 0]; pointwise
  simp only [ib1, ib2, ib3, e1, e2, e3]

theorem final_eq : (dats m 0 c).arrAt 5 cfg0.N = outV m c := by
  refine (dats m 0 c).arrAt_eq_of_covers 5 _ (by decide +kernel) fun t hf y => ?_
  have := lt32 t
  blk_simp
  rw [after0_5]
  idx_vars y
  refine (step_apply m c t y0 y1).trans ?_
  refine (show _ = outV m c (ix2 (rowT t y0) y1) from rfl).trans ?_
  blk_ext [idx5 t]

theorem run (g : Dev nD → PrngReg) : θ_run defs (onTc (τ := τ) (main (F := Ideal))) ⟨m, fun _ => 0, g⟩ fun r => ∀ c : Dev nD,
      r.2.mem ((c : Thread nD τ).loc main_v1) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final_eq m c), (h c).2⟩) (Value.run_blocks m g)

/-- The two programs' results agree, from memories that agree on the arguments. -/
theorem res_eq (m' : (ℓ : Loc Reference3Ideal.nD Reference3Ideal.τ Reference3Ideal.sig) → Buf (Elt Ideal) ℓ)
    (h0 : m' ((c.tc : Thread Reference3Ideal.nD Reference3Ideal.τ).loc Reference3Ideal.main_arg0) = a0 m c)
    (h1 : m' ((c.tc : Thread Reference3Ideal.nD Reference3Ideal.τ).loc Reference3Ideal.main_arg1) = a1 m c)
    (h2 : m' ((c.tc : Thread Reference3Ideal.nD Reference3Ideal.τ).loc Reference3Ideal.main_arg2) = a2 m c)
    (h3 : m' ((c.tc : Thread Reference3Ideal.nD Reference3Ideal.τ).loc Reference3Ideal.main_arg3) = a3 m c)
    (h4 : m' ((c.tc : Thread Reference3Ideal.nD Reference3Ideal.τ).loc Reference3Ideal.main_arg4) = a4 m c) :
    (Reference3Ideal.OutProj.resV (m' ((c.tc : Thread Reference3Ideal.nD Reference3Ideal.τ).loc Reference3Ideal.main_arg0))
      (m' ((c.tc : Thread Reference3Ideal.nD Reference3Ideal.τ).loc Reference3Ideal.main_arg1))
      (m' ((c.tc : Thread Reference3Ideal.nD Reference3Ideal.τ).loc Reference3Ideal.main_arg2))
      (m' ((c.tc : Thread Reference3Ideal.nD Reference3Ideal.τ).loc Reference3Ideal.main_arg3))
      (m' ((c.tc : Thread Reference3Ideal.nD Reference3Ideal.τ).loc Reference3Ideal.main_arg4)) : Vec Ideal ⟨2, ![16384, 2048]⟩ .f32) = outV m c := by
  rw [h0, h1, h2, h3, h4]
  funext i
  idx_vars i
  exact Reference3Ideal.OutProj.resV_apply _ _ _ _ _ i0 i1

end Cert.Kernel3Ideal.OutProj

end
-- ==== Proof.lean ====
/- The proof of the certificate: the frames are generated, the value claims are made of `Final.lean`, `FFinal.lean`, `OSpec.lean`, `CKer.lean` and `CRef.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Final
public import proofs.«01_k».proof.Proof.FFinal
public import proofs.«01_k».proof.Proof.CKer
public import proofs.«01_k».proof.Proof.CRef
public import proofs.«01_k».proof.Proof.OSpec
public import Idealize.ShloMosaic.Adequacy
public import Idealize.ShloMosaic.Init

@[expose] public section

noncomputable section

namespace Cert.Proof

open Idealize.ShloMosaic Idealize.SL.Sem

/-- The reference's frame: its run read at the arguments; the program declares no semaphore. -/
theorem frame_r : quiescent_ReferenceIdeal (hReferenceIdeal := Cert.ReferenceIdeal.Gen.facts) := fun m ρ _ =>
  (θ_run _ _ _).mono (fun _ h => ⟨fun c => (h c).2.2, Idealize.ShloMosaic.sem_eq_zero_of_no_sems (by decide) _⟩) (Cert.ReferenceIdeal.Value.run m ρ)

/-- The kernel and the reference agree over the extended reals, from memories that agree on the arguments. -/
theorem value : algebraic_KernelIdeal_ReferenceIdeal (hKernelIdeal := Cert.KernelIdeal.Gen.facts) (hReferenceIdeal := Cert.ReferenceIdeal.Gen.facts) :=
  fun m g m' g' _ hm => by
    have H : ∀ c, Final.Same m m' c := fun c =>
      ⟨(hm c).1, (hm c).2.1, (hm c).2.2.1, (hm c).2.2.2.1, (hm c).2.2.2.2.1, (hm c).2.2.2.2.2.1, (hm c).2.2.2.2.2.2.1, (hm c).2.2.2.2.2.2.2⟩
    refine ⟨fun c => Cert.KernelIdeal.Value.G9 m c, fun c => Cert.KernelIdeal.Value.G10 m c, Cert.KernelIdeal.Value.run m g, ?_⟩
    refine (θ_run _ _ _).mono (fun _ h c => ⟨(h c).1.trans ?_, (h c).2.1.trans ?_, (h c).2.2⟩) (Cert.ReferenceIdeal.Value.run m' g')
    · exact (Cert.ReferenceIdeal.Trips.out55 m' c).trans (Final.ob_eq (H c) _ rfl)
    · exact (Cert.ReferenceIdeal.Trips.out53 m' c).trans (Final.st_eq (H c) _ rfl)

/-- The same for the feed-forward part: -/
theorem frame_r2 : quiescent_Reference2Ideal (hReference2Ideal := Cert.Reference2Ideal.Gen.facts) := fun m ρ _ =>
  (θ_run _ _ _).mono (fun _ h => ⟨fun c => (h c).2.2, Idealize.ShloMosaic.sem_eq_zero_of_no_sems (by decide) _⟩) (Cert.Reference2Ideal.Value.run m ρ)

theorem value2 : algebraic_Kernel2Ideal_Reference2Ideal (hKernel2Ideal := Cert.Kernel2Ideal.Gen.facts) (hReference2Ideal := Cert.Reference2Ideal.Gen.facts) :=
  fun m g m' g' _ hm => by
    have H : ∀ c, FFinal.Same m m' c := fun c =>
      ⟨(hm c).1, (hm c).2.1, (hm c).2.2.1, (hm c).2.2.2.1, (hm c).2.2.2.2.1, (hm c).2.2.2.2.2.1, (hm c).2.2.2.2.2.2⟩
    refine ⟨fun c => Cert.Kernel2Ideal.Value.G8 m c, fun c => Cert.Kernel2Ideal.Value.G9 m c, Cert.Kernel2Ideal.Value.run m g, ?_⟩
    refine (θ_run _ _ _).mono (fun _ h c => ⟨(h c).1.trans ?_, (h c).2.1.trans ?_, (h c).2.2⟩) (Cert.Reference2Ideal.Value.run m' g')
    · exact FFinal.y_eq (H c)
    · exact FFinal.tail_eq (H c)

/-- And for the output projection: -/
theorem frame_r3 : quiescent_Reference3Ideal (hReference3Ideal := Cert.Reference3Ideal.Gen.facts) := fun m ρ _ =>
  (θ_run _ _ _).mono (fun _ h => ⟨fun c => (h c).2, Idealize.ShloMosaic.sem_eq_zero_of_no_sems (by decide) _⟩) (Cert.Reference3Ideal.Value.run m ρ)

theorem value3 : algebraic_Kernel3Ideal_Reference3Ideal (hKernel3Ideal := Cert.Kernel3Ideal.Gen.facts) (hReference3Ideal := Cert.Reference3Ideal.Gen.facts) :=
  fun m g m' g' _ hm => by
    refine ⟨fun c => Cert.Kernel3Ideal.OutProj.outV m c, Cert.Kernel3Ideal.OutProj.run m g, ?_⟩
    refine (θ_run _ _ _).mono (fun _ h c => ⟨(h c).1.trans ?_, (h c).2⟩) (Cert.Reference3Ideal.Value.run m' g')
    exact Cert.Kernel3Ideal.OutProj.res_eq m c m' (hm c).1 (hm c).2.1 (hm c).2.2.1 (hm c).2.2.2.1 (hm c).2.2.2.2

/-- And for the chunked spatial-gating MLP: -/
theorem frame_r4 : quiescent_Reference4Ideal (hReference4Ideal := Cert.Reference4Ideal.Gen.facts) := fun m ρ _ =>
  (θ_run _ _ _).mono (fun _ h => ⟨fun c => (h c).2, Idealize.ShloMosaic.sem_eq_zero_of_no_sems (by decide) _⟩) (Cert.Reference4Ideal.Value.run m ρ)

theorem value4 : algebraic_Kernel4Ideal_Reference4Ideal (hKernel4Ideal := Cert.Kernel4Ideal.Gen.facts) (hReference4Ideal := Cert.Reference4Ideal.Gen.facts) :=
  fun m g m' g' _ hm => by
    refine ⟨fun c => Cert.Kernel4Ideal.Chunk.outV m c, Cert.Kernel4Ideal.Chunk.run m g, ?_⟩
    refine (θ_run _ _ _).mono (fun _ h c => ⟨(h c).1.trans ?_, (h c).2⟩) (Cert.Reference4Ideal.Value.run m' g')
    refine (Cert.Reference4Ideal.Chunk.res_eq m' c).trans ?_
    rw [(hm c).1, (hm c).2.1, (hm c).2.2.1, (hm c).2.2.2]
    funext i
    idx_vars i
    exact Cert.Reference4Ideal.Chunk.res_apply _ _ _ _ i0 i1

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, frame_r,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  trivial, value, trivial, value2, trivial, value3, trivial, value4⟩

end Cert.Proof

end
